-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_groups_in_range [hPre_groups_in_range : Cert.Pre_groups_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_groups_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_groups_in_range [hPre_groups_in_range : Cert.Pre_groups_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_groups_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_groups_in_range [hKernelIdeal : Cert.KernelIdeal.Facts] [hPre_groups_in_range : Cert.Pre_groups_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_groups_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_groups_in_range [hReferenceIdeal : Cert.ReferenceIdeal.Facts] [hPre_groups_in_range : Cert.Pre_groups_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_groups_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.bf16_pair.BufferStatement Cert.KernelIdeal.S512x2x128 Cert.KernelIdeal.S512x1x128
  ∧ IdealRules.bf16_pair.Statement Cert.KernelIdeal.S1024x40 Cert.KernelIdeal.S512x40
  ∧ IdealRules.bf16_pair.Statement Cert.KernelIdeal.S512x2x40 Cert.KernelIdeal.S512x1x40
  ∧ IdealRules.bf16_pair.Statement Cert.KernelIdeal.S128x2x128 Cert.KernelIdeal.S128x1x128
  ∧ IdealRules.bf16_pair.Statement Cert.KernelIdeal.S256x128 Cert.KernelIdeal.S128x128

def algebraic_KernelIdeal_ReferenceIdeal_pre_groups_in_range [hKernelIdeal : Cert.KernelIdeal.Facts] [hReferenceIdeal : Cert.ReferenceIdeal.Facts] [hPre_groups_in_range : Cert.Pre_groups_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_groups_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_groups_in_range : Cert.Pre_groups_in_range.Facts),
    quiescent_Kernel (hKernel := hKernel)
    ∧ quiescent_KernelIdeal (hKernelIdeal := hKernelIdeal)
    ∧ quiescent_KernelIdeal_pre_groups_in_range (hKernelIdeal := hKernelIdeal) (hPre_groups_in_range := hPre_groups_in_range)
    ∧ quiescent_ReferenceIdeal (hReferenceIdeal := hReferenceIdeal)
    ∧ quiescent_ReferenceIdeal_pre_groups_in_range (hReferenceIdeal := hReferenceIdeal) (hPre_groups_in_range := hPre_groups_in_range)
    ∧ preserves_Kernel_KernelIdeal
    ∧ algebraic_KernelIdeal_ReferenceIdeal_pre_groups_in_range (hKernelIdeal := hKernelIdeal) (hReferenceIdeal := hReferenceIdeal) (hPre_groups_in_range := hPre_groups_in_range)
-- ==== Pre_groups_in_range.lean ====
abbrev S64x1x5120 : Shape := ⟨3, ![64, 1, 5120]⟩
abbrev S640x35840 : Shape := ⟨2, ![640, 35840]⟩
abbrev S40x35840 : Shape := ⟨2, ![40, 35840]⟩
abbrev S40x4480 : Shape := ⟨2, ![40, 4480]⟩
abbrev S5120 : Shape := ⟨1, ![5120]⟩
abbrev S_ : Shape := ⟨0, ![]⟩

class Facts : Prop where
  bcast_S_S5120 : S_.BroadcastsInDim S5120 (![] : Fin 0 → Fin S5120.rank)

variable [Facts]

def fn {F : FTy → Type} [FloatOps F] (main_arg0 : FVec F S64x1x5120 .bf16) (main_arg1 : IVec S640x35840 32) (main_arg2 : FVec F S40x35840 .bf16) (main_arg3 : IVec S40x4480 32) (main_arg4 : IVec S5120 32) : IVec S5120 1 :=
  let main_c : IVec S_ 32 := constantI S_ 32 0#32
  let main_v0 : IVec S5120 32 := broadcastInDim S5120 ![] bcast_S_S5120 main_c
  let main_v1 : IVec S5120 1 := cmpi .sge main_arg4 main_v0
  let main_c_0 : IVec S_ 32 := constantI S_ 32 40#32
  let main_v2 : IVec S5120 32 := broadcastInDim S5120 ![] bcast_S_S5120 main_c_0
  let main_v3 : IVec S5120 1 := cmpi .slt main_arg4 main_v2
  let main_v4 : IVec S5120 1 := andi main_v1 main_v3
  main_v4
-- ==== Kernel.lean ====
abbrev S64x1x5120 : Shape := ⟨3, ![64, 1, 5120]⟩
abbrev S640x35840 : Shape := ⟨2, ![640, 35840]⟩
abbrev S40x35840 : Shape := ⟨2, ![40, 35840]⟩
abbrev S40x4480 : Shape := ⟨2, ![40, 4480]⟩
abbrev S5120 : Shape := ⟨1, ![5120]⟩
abbrev S64x1280x4 : Shape := ⟨3, ![64, 1280, 4]⟩
abbrev S64x4x1280 : Shape := ⟨3, ![64, 4, 1280]⟩
abbrev S64x5120 : Shape := ⟨2, ![64, 5120]⟩
abbrev S1280x4 : Shape := ⟨2, ![1280, 4]⟩
abbrev S4x1280 : Shape := ⟨2, ![4, 1280]⟩
abbrev S40x128 : Shape := ⟨2, ![40, 128]⟩
abbrev S64x35840 : Shape := ⟨2, ![64, 35840]⟩
abbrev S640x1024 : Shape := ⟨2, ![640, 1024]⟩
abbrev S40x1024 : Shape := ⟨2, ![40, 1024]⟩
abbrev S64x1024 : Shape := ⟨2, ![64, 1024]⟩
abbrev S128x1280 : Shape := ⟨2, ![128, 1280]⟩
abbrev S512x128 : Shape := ⟨2, ![512, 128]⟩
abbrev S1024x40 : Shape := ⟨2, ![1024, 40]⟩
abbrev S512x40 : Shape := ⟨2, ![512, 40]⟩
abbrev S128x40 : Shape := ⟨2, ![128, 40]⟩
abbrev S128x128 : Shape := ⟨2, ![128, 128]⟩
abbrev S256x128 : Shape := ⟨2, ![256, 128]⟩
abbrev S128x256 : Shape := ⟨2, ![128, 256]⟩
abbrev S64x256 : Shape := ⟨2, ![64, 256]⟩
abbrev S1x128 : Shape := ⟨2, ![1, 128]⟩
abbrev S128x128x1 : Shape := ⟨3, ![128, 128, 1]⟩
abbrev S256x128x1 : Shape := ⟨3, ![256, 128, 1]⟩
abbrev S256x256 : Shape := ⟨2, ![256, 256]⟩

abbrev nBuf : Space → Nat
  | .hbm => 12
  | .vmem => 13
  | .smem => 0
  | _ => 0

abbrev bufTy : (tb : Table) → Fin (tcTables nBuf tb) → BufTy
  | .hbm, ⟨0, _⟩ => ⟨S64x1x5120, .bf16⟩
  | .hbm, ⟨1, _⟩ => ⟨S640x35840, .i32⟩
  | .hbm, ⟨2, _⟩ => ⟨S40x35840, .bf16⟩
  | .hbm, ⟨3, _⟩ => ⟨S40x4480, .i32⟩
  | .hbm, ⟨4, _⟩ => ⟨S5120, .i32⟩
  | .hbm, ⟨5, _⟩ => ⟨S64x1280x4, .bf16⟩
  | .hbm, ⟨6, _⟩ => ⟨S64x4x1280, .bf16⟩
  | .hbm, ⟨7, _⟩ => ⟨S64x5120, .bf16⟩
  | .hbm, ⟨8, _⟩ => ⟨S1280x4, .i32⟩
  | .hbm, ⟨9, _⟩ => ⟨S4x1280, .i32⟩
  | .hbm, ⟨10, _⟩ => ⟨S40x128, .i32⟩
  | .hbm, ⟨11, _⟩ => ⟨S64x35840, .bf16⟩
  | .local _ .vmem, ⟨0, _⟩ => ⟨S64x5120, .bf16⟩
  | .local _ .vmem, ⟨1, _⟩ => ⟨S40x128, .i32⟩
  | .local _ .vmem, ⟨2, _⟩ => ⟨S640x1024, .i32⟩
  | .local _ .vmem, ⟨3, _⟩ => ⟨S640x1024, .i32⟩
  | .local _ .vmem, ⟨4, _⟩ => ⟨S40x1024, .bf16⟩
  | .local _ .vmem, ⟨5, _⟩ => ⟨S40x1024, .bf16⟩
  | .local _ .vmem, ⟨6, _⟩ => ⟨S40x128, .i32⟩
  | .local _ .vmem, ⟨7, _⟩ => ⟨S40x128, .i32⟩
  | .local _ .vmem, ⟨8, _⟩ => ⟨S64x1024, .bf16⟩
  | .local _ .vmem, ⟨9, _⟩ => ⟨S64x1024, .bf16⟩
  | .local _ .vmem, ⟨10, _⟩ => ⟨S128x1280, .i32⟩
  | .local _ .vmem, ⟨11, _⟩ => ⟨S512x128, .i32⟩
  | .local _ .vmem, ⟨12, _⟩ => ⟨S512x128, .i32⟩
  | _, _ => ⟨S64x1x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [BitOps F]

abbrev grid0 : Pipeline.Grid := ⟨1, ![35], ![false]⟩

@[reducible] def k0_t1_loop : Scf.Loop 32 :=
  let c0_i32 : BitVec 32 := 0#32
  let c4_i32_8 : BitVec 32 := 4#32
  let v24 : BitVec 32 := Scalar.addi c0_i32 c4_i32_8
  let c1_i32 : BitVec 32 := 1#32
  ⟨c0_i32, v24, c1_i32⟩
def k0_mult1 (k0_t1 : Fin k0_t1_loop.trips) : BitVec 32 :=
  let c0_i32 : BitVec 32 := 0#32
  let c1_i32 : BitVec 32 := 1#32
  let arg10 : BitVec 32 := Scf.iv c0_i32 c1_i32 k0_t1
  let c256_i32 : BitVec 32 := 256#32
  let v25 : BitVec 32 := Scalar.muli arg10 c256_i32
  v25
def k0_mult2 (k0_t1 : Fin k0_t1_loop.trips) : BitVec 32 :=
  let c0_i32 : BitVec 32 := 0#32
  let c1_i32 : BitVec 32 := 1#32
  let arg10 : BitVec 32 := Scf.iv c0_i32 c1_i32 k0_t1
  let c128_i32 : BitVec 32 := 128#32
  let v27 : BitVec 32 := Scalar.muli arg10 c128_i32
  v27
def k0_off1 (k0_t1 : Fin k0_t1_loop.trips) (c0_i32_10 : BitVec 32) : Fin 2 → Nat :=
  let c0_11 : Index := 0#32
  let c0_i32 : BitVec 32 := 0#32
  let c1_i32 : BitVec 32 := 1#32
  let arg10 : BitVec 32 := Scf.iv c0_i32 c1_i32 k0_t1
  let c256_i32 : BitVec 32 := 256#32
  let v25 : BitVec 32 := Scalar.muli arg10 c256_i32
  let v26 : BitVec 32 := v25
  let v29 : BitVec 32 := Scalar.addi v26 c0_i32_10
  let v30 : Index := Scalar.indexCast v29
  ![0, v30.toNat]
def k0_off2 (k0_t1 : Fin k0_t1_loop.trips) (c0_i32_14 : BitVec 32) : Fin 2 → Nat :=
  let c128 : Index := 128#32
  let c0_i32 : BitVec 32 := 0#32
  let c1_i32 : BitVec 32 := 1#32
  let arg10 : BitVec 32 := Scf.iv c0_i32 c1_i32 k0_t1
  let c256_i32 : BitVec 32 := 256#32
  let v25 : BitVec 32 := Scalar.muli arg10 c256_i32
  let v26 : BitVec 32 := v25
  let v38 : BitVec 32 := Scalar.addi v26 c0_i32_14
  let v39 : Index := Scalar.indexCast v38
  ![128, v39.toNat]
def k0_off3 (k0_t1 : Fin k0_t1_loop.trips) (c0_i32_16 : BitVec 32) : Fin 2 → Nat :=
  let c256_17 : Index := 256#32
  let c0_i32 : BitVec 32 := 0#32
  let c1_i32 : BitVec 32 := 1#32
  let arg10 : BitVec 32 := Scf.iv c0_i32 c1_i32 k0_t1
  let c256_i32 : BitVec 32 := 256#32
  let v25 : BitVec 32 := Scalar.muli arg10 c256_i32
  let v26 : BitVec 32 := v25
  let v47 : BitVec 32 := Scalar.addi v26 c0_i32_16
  let v48 : Index := Scalar.indexCast v47
  ![256, v48.toNat]
def k0_off4 (k0_t1 : Fin k0_t1_loop.trips) (c0_i32_19 : BitVec 32) : Fin 2 → Nat :=
  let c384 : Index := 384#32
  let c0_i32 : BitVec 32 := 0#32
  let c1_i32 : BitVec 32 := 1#32
  let arg10 : BitVec 32 := Scf.iv c0_i32 c1_i32 k0_t1
  let c256_i32 : BitVec 32 := 256#32
  let v25 : BitVec 32 := Scalar.muli arg10 c256_i32
  let v26 : BitVec 32 := v25
  let v56 : BitVec 32 := Scalar.addi v26 c0_i32_19
  let v57 : Index := Scalar.indexCast v56
  ![384, v57.toNat]
def k0_off5 (k0_t1 : Fin k0_t1_loop.trips) (c0_i32_21 : BitVec 32) : Fin 2 → Nat :=
  let c512_22 : Index := 512#32
  let c0_i32 : BitVec 32 := 0#32
  let c1_i32 : BitVec 32 := 1#32
  let arg10 : BitVec 32 := Scf.iv c0_i32 c1_i32 k0_t1
  let c256_i32 : BitVec 32 := 256#32
  let v25 : BitVec 32 := Scalar.muli arg10 c256_i32
  let v26 : BitVec 32 := v25
  let v65 : BitVec 32 := Scalar.addi v26 c0_i32_21
  let v66 : Index := Scalar.indexCast v65
  ![512, v66.toNat]
def k0_off6 (k0_t1 : Fin k0_t1_loop.trips) : Fin 2 → Nat :=
  let c0_i32 : BitVec 32 := 0#32
  let c1_i32 : BitVec 32 := 1#32
  let arg10 : BitVec 32 := Scf.iv c0_i32 c1_i32 k0_t1
  let c128_i32 : BitVec 32 := 128#32
  let v27 : BitVec 32 := Scalar.muli arg10 c128_i32
  let v28 : BitVec 32 := v27
  let v119 : Index := Scalar.indexCast v28
  let c0_43 : Index := 0#32
  ![v119.toNat, 0]
def k0_off7 (k0_t1 : Fin k0_t1_loop.trips) : Fin 2 → Nat :=
  let c0_565 : Index := 0#32
  let c0_i32 : BitVec 32 := 0#32
  let c1_i32 : BitVec 32 := 1#32
  let arg10 : BitVec 32 := Scf.iv c0_i32 c1_i32 k0_t1
  let c256_i32 : BitVec 32 := 256#32
  let v25 : BitVec 32 := Scalar.muli arg10 c256_i32
  let v26 : BitVec 32 := v25
  let v1667 : Index := Scalar.indexCast v26
  ![0, v1667.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S64x5120 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S40x128 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S640x1024 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S40x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S40x128 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== KernelIdeal.lean ====
abbrev S64x1x5120 : Shape := ⟨3, ![64, 1, 5120]⟩
abbrev S640x35840 : Shape := ⟨2, ![640, 35840]⟩
abbrev S40x35840 : Shape := ⟨2, ![40, 35840]⟩
abbrev S40x4480 : Shape := ⟨2, ![40, 4480]⟩
abbrev S5120 : Shape := ⟨1, ![5120]⟩
abbrev S64x1280x4 : Shape := ⟨3, ![64, 1280, 4]⟩
abbrev S64x4x1280 : Shape := ⟨3, ![64, 4, 1280]⟩
abbrev S64x5120 : Shape := ⟨2, ![64, 5120]⟩
abbrev S1280x4 : Shape := ⟨2, ![1280, 4]⟩
abbrev S4x1280 : Shape := ⟨2, ![4, 1280]⟩
abbrev S40x128 : Shape := ⟨2, ![40, 128]⟩
abbrev S64x35840 : Shape := ⟨2, ![64, 35840]⟩
abbrev S640x1024 : Shape := ⟨2, ![640, 1024]⟩
abbrev S40x1024 : Shape := ⟨2, ![40, 1024]⟩
abbrev S64x1024 : Shape := ⟨2, ![64, 1024]⟩
abbrev S128x1280 : Shape := ⟨2, ![128, 1280]⟩
abbrev S512x128 : Shape := ⟨2, ![512, 128]⟩
abbrev S512x2x128 : Shape := ⟨3, ![512, 2, 128]⟩
abbrev S512x1x128 : Shape := ⟨3, ![512, 1, 128]⟩
abbrev S1024x40 : Shape := ⟨2, ![1024, 40]⟩
abbrev S512x40 : Shape := ⟨2, ![512, 40]⟩
abbrev S512x2x40 : Shape := ⟨3, ![512, 2, 40]⟩
abbrev S512x1x40 : Shape := ⟨3, ![512, 1, 40]⟩
abbrev S128x40 : Shape := ⟨2, ![128, 40]⟩
abbrev S128x128 : Shape := ⟨2, ![128, 128]⟩
abbrev S256x128 : Shape := ⟨2, ![256, 128]⟩
abbrev S128x256 : Shape := ⟨2, ![128, 256]⟩
abbrev S64x256 : Shape := ⟨2, ![64, 256]⟩
abbrev S128x2x128 : Shape := ⟨3, ![128, 2, 128]⟩
abbrev S128x1x128 : Shape := ⟨3, ![128, 1, 128]⟩
abbrev S1x128 : Shape := ⟨2, ![1, 128]⟩
abbrev S128x128x1 : Shape := ⟨3, ![128, 128, 1]⟩
abbrev S256x128x1 : Shape := ⟨3, ![256, 128, 1]⟩
abbrev S256x256 : Shape := ⟨2, ![256, 256]⟩

abbrev nBuf : Space → Nat
  | .hbm => 12
  | .vmem => 13
  | .smem => 0
  | _ => 0

abbrev bufTy : (tb : Table) → Fin (tcTables nBuf tb) → BufTy
  | .hbm, ⟨0, _⟩ => ⟨S64x1x5120, .bf16⟩
  | .hbm, ⟨1, _⟩ => ⟨S640x35840, .i32⟩
  | .hbm, ⟨2, _⟩ => ⟨S40x35840, .bf16⟩
  | .hbm, ⟨3, _⟩ => ⟨S40x4480, .i32⟩
  | .hbm, ⟨4, _⟩ => ⟨S5120, .i32⟩
  | .hbm, ⟨5, _⟩ => ⟨S64x1280x4, .bf16⟩
  | .hbm, ⟨6, _⟩ => ⟨S64x4x1280, .bf16⟩
  | .hbm, ⟨7, _⟩ => ⟨S64x5120, .bf16⟩
  | .hbm, ⟨8, _⟩ => ⟨S1280x4, .i32⟩
  | .hbm, ⟨9, _⟩ => ⟨S4x1280, .i32⟩
  | .hbm, ⟨10, _⟩ => ⟨S40x128, .i32⟩
  | .hbm, ⟨11, _⟩ => ⟨S64x35840, .bf16⟩
  | .local _ .vmem, ⟨0, _⟩ => ⟨S64x5120, .bf16⟩
  | .local _ .vmem, ⟨1, _⟩ => ⟨S40x128, .i32⟩
  | .local _ .vmem, ⟨2, _⟩ => ⟨S640x1024, .i32⟩
  | .local _ .vmem, ⟨3, _⟩ => ⟨S640x1024, .i32⟩
  | .local _ .vmem, ⟨4, _⟩ => ⟨S40x1024, .bf16⟩
  | .local _ .vmem, ⟨5, _⟩ => ⟨S40x1024, .bf16⟩
  | .local _ .vmem, ⟨6, _⟩ => ⟨S40x128, .i32⟩
  | .local _ .vmem, ⟨7, _⟩ => ⟨S40x128, .i32⟩
  | .local _ .vmem, ⟨8, _⟩ => ⟨S64x1024, .bf16⟩
  | .local _ .vmem, ⟨9, _⟩ => ⟨S64x1024, .bf16⟩
  | .local _ .vmem, ⟨10, _⟩ => ⟨S128x1280, .i32⟩
  | .local _ .vmem, ⟨11, _⟩ => ⟨S512x2x128, .bf16⟩
  | .local _ .vmem, ⟨12, _⟩ => ⟨S512x128, .i32⟩
  | _, _ => ⟨S64x1x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![35], ![false]⟩

@[reducible] def k0_t1_loop : Scf.Loop 32 :=
  let c0_i32 : BitVec 32 := 0#32
  let c4_i32_8 : BitVec 32 := 4#32
  let v24 : BitVec 32 := Scalar.addi c0_i32 c4_i32_8
  let c1_i32 : BitVec 32 := 1#32
  ⟨c0_i32, v24, c1_i32⟩
def k0_mult1 (k0_t1 : Fin k0_t1_loop.trips) : BitVec 32 :=
  let c0_i32 : BitVec 32 := 0#32
  let c1_i32 : BitVec 32 := 1#32
  let arg10 : BitVec 32 := Scf.iv c0_i32 c1_i32 k0_t1
  let c256_i32 : BitVec 32 := 256#32
  let v25 : BitVec 32 := Scalar.muli arg10 c256_i32
  v25
def k0_mult2 (k0_t1 : Fin k0_t1_loop.trips) : BitVec 32 :=
  let c0_i32 : BitVec 32 := 0#32
  let c1_i32 : BitVec 32 := 1#32
  let arg10 : BitVec 32 := Scf.iv c0_i32 c1_i32 k0_t1
  let c128_i32 : BitVec 32 := 128#32
  let v27 : BitVec 32 := Scalar.muli arg10 c128_i32
  v27
def k0_off1 (k0_t1 : Fin k0_t1_loop.trips) (c0_i32_10 : BitVec 32) : Fin 2 → Nat :=
  let c0_11 : Index := 0#32
  let c0_i32 : BitVec 32 := 0#32
  let c1_i32 : BitVec 32 := 1#32
  let arg10 : BitVec 32 := Scf.iv c0_i32 c1_i32 k0_t1
  let c256_i32 : BitVec 32 := 256#32
  let v25 : BitVec 32 := Scalar.muli arg10 c256_i32
  let v26 : BitVec 32 := v25
  let v29 : BitVec 32 := Scalar.addi v26 c0_i32_10
  let v30 : Index := Scalar.indexCast v29
  ![0, v30.toNat]
def k0_off2 (k0_t1 : Fin k0_t1_loop.trips) (c0_i32_14 : BitVec 32) : Fin 2 → Nat :=
  let c128 : Index := 128#32
  let c0_i32 : BitVec 32 := 0#32
  let c1_i32 : BitVec 32 := 1#32
  let arg10 : BitVec 32 := Scf.iv c0_i32 c1_i32 k0_t1
  let c256_i32 : BitVec 32 := 256#32
  let v25 : BitVec 32 := Scalar.muli arg10 c256_i32
  let v26 : BitVec 32 := v25
  let v38 : BitVec 32 := Scalar.addi v26 c0_i32_14
  let v39 : Index := Scalar.indexCast v38
  ![128, v39.toNat]
def k0_off3 (k0_t1 : Fin k0_t1_loop.trips) (c0_i32_16 : BitVec 32) : Fin 2 → Nat :=
  let c256_17 : Index := 256#32
  let c0_i32 : BitVec 32 := 0#32
  let c1_i32 : BitVec 32 := 1#32
  let arg10 : BitVec 32 := Scf.iv c0_i32 c1_i32 k0_t1
  let c256_i32 : BitVec 32 := 256#32
  let v25 : BitVec 32 := Scalar.muli arg10 c256_i32
  let v26 : BitVec 32 := v25
  let v47 : BitVec 32 := Scalar.addi v26 c0_i32_16
  let v48 : Index := Scalar.indexCast v47
  ![256, v48.toNat]
def k0_off4 (k0_t1 : Fin k0_t1_loop.trips) (c0_i32_19 : BitVec 32) : Fin 2 → Nat :=
  let c384 : Index := 384#32
  let c0_i32 : BitVec 32 := 0#32
  let c1_i32 : BitVec 32 := 1#32
  let arg10 : BitVec 32 := Scf.iv c0_i32 c1_i32 k0_t1
  let c256_i32 : BitVec 32 := 256#32
  let v25 : BitVec 32 := Scalar.muli arg10 c256_i32
  let v26 : BitVec 32 := v25
  let v56 : BitVec 32 := Scalar.addi v26 c0_i32_19
  let v57 : Index := Scalar.indexCast v56
  ![384, v57.toNat]
def k0_off5 (k0_t1 : Fin k0_t1_loop.trips) (c0_i32_21 : BitVec 32) : Fin 2 → Nat :=
  let c512_22 : Index := 512#32
  let c0_i32 : BitVec 32 := 0#32
  let c1_i32 : BitVec 32 := 1#32
  let arg10 : BitVec 32 := Scf.iv c0_i32 c1_i32 k0_t1
  let c256_i32 : BitVec 32 := 256#32
  let v25 : BitVec 32 := Scalar.muli arg10 c256_i32
  let v26 : BitVec 32 := v25
  let v65 : BitVec 32 := Scalar.addi v26 c0_i32_21
  let v66 : Index := Scalar.indexCast v65
  ![512, v66.toNat]
def k0_off6 (k0_t1 : Fin k0_t1_loop.trips) : Fin 3 → Nat :=
  let c0_i32 : BitVec 32 := 0#32
  let c1_i32 : BitVec 32 := 1#32
  let arg10 : BitVec 32 := Scf.iv c0_i32 c1_i32 k0_t1
  let c128_i32 : BitVec 32 := 128#32
  let v27 : BitVec 32 := Scalar.muli arg10 c128_i32
  let v28 : BitVec 32 := v27
  let v119 : Index := Scalar.indexCast v28
  let c0_43 : Index := 0#32
  ![v119.toNat, 0, 0]
def k0_off7 (k0_t1 : Fin k0_t1_loop.trips) : Fin 2 → Nat :=
  let c0_i32 : BitVec 32 := 0#32
  let c1_i32 : BitVec 32 := 1#32
  let arg10 : BitVec 32 := Scf.iv c0_i32 c1_i32 k0_t1
  let c128_i32 : BitVec 32 := 128#32
  let v27 : BitVec 32 := Scalar.muli arg10 c128_i32
  let v28 : BitVec 32 := v27
  let v123 : Index := Scalar.indexCast v28
  let c0_44 : Index := 0#32
  ![v123.toNat, 0]
def k0_off8 (k0_t1 : Fin k0_t1_loop.trips) : Fin 2 → Nat :=
  let c0_565 : Index := 0#32
  let c0_i32 : BitVec 32 := 0#32
  let c1_i32 : BitVec 32 := 1#32
  let arg10 : BitVec 32 := Scf.iv c0_i32 c1_i32 k0_t1
  let c256_i32 : BitVec 32 := 256#32
  let v25 : BitVec 32 := Scalar.muli arg10 c256_i32
  let v26 : BitVec 32 := v25
  let v1667 : Index := Scalar.indexCast v26
  ![0, v1667.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S64x5120 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S40x128 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S640x1024 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S40x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S40x128 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S64x1x5120 : Shape := ⟨3, ![64, 1, 5120]⟩
abbrev S640x35840 : Shape := ⟨2, ![640, 35840]⟩
abbrev S40x35840 : Shape := ⟨2, ![40, 35840]⟩
abbrev S40x4480 : Shape := ⟨2, ![40, 4480]⟩
abbrev S5120 : Shape := ⟨1, ![5120]⟩
abbrev S8 : Shape := ⟨1, ![8]⟩
abbrev S_ : Shape := ⟨0, ![]⟩
abbrev S40x4480x1 : Shape := ⟨3, ![40, 4480, 1]⟩
abbrev S1x1x8 : Shape := ⟨3, ![1, 1, 8]⟩
abbrev S40x4480x8 : Shape := ⟨3, ![40, 4480, 8]⟩
abbrev S640x1x35840 : Shape := ⟨3, ![640, 1, 35840]⟩
abbrev S1x8x1 : Shape := ⟨3, ![1, 8, 1]⟩
abbrev S640x8x35840 : Shape := ⟨3, ![640, 8, 35840]⟩
abbrev S5120x35840 : Shape := ⟨2, ![5120, 35840]⟩
abbrev S5120x1 : Shape := ⟨2, ![5120, 1]⟩
abbrev S64x5120 : Shape := ⟨2, ![64, 5120]⟩
abbrev S64x35840 : Shape := ⟨2, ![64, 35840]⟩

abbrev nBuf : Space → Nat
  | .hbm => 52
  | .vmem => 0
  | .smem => 0
  | _ => 0

abbrev bufTy : (tb : Table) → Fin (tcTables nBuf tb) → BufTy
  | .hbm, ⟨0, _⟩ => ⟨S64x1x5120, .bf16⟩
  | .hbm, ⟨1, _⟩ => ⟨S640x35840, .i32⟩
  | .hbm, ⟨2, _⟩ => ⟨S40x35840, .bf16⟩
  | .hbm, ⟨3, _⟩ => ⟨S40x4480, .i32⟩
  | .hbm, ⟨4, _⟩ => ⟨S5120, .i32⟩
  | .hbm, ⟨5, _⟩ => ⟨S8, .i32⟩
  | .hbm, ⟨6, _⟩ => ⟨S_, .i32⟩
  | .hbm, ⟨7, _⟩ => ⟨S8, .i32⟩
  | .hbm, ⟨8, _⟩ => ⟨S8, .i32⟩
  | .hbm, ⟨9, _⟩ => ⟨S40x4480x1, .i32⟩
  | .hbm, ⟨10, _⟩ => ⟨S1x1x8, .i32⟩
  | .hbm, ⟨11, _⟩ => ⟨S40x4480x8, .i32⟩
  | .hbm, ⟨12, _⟩ => ⟨S40x4480x8, .i32⟩
  | .hbm, ⟨13, _⟩ => ⟨S40x4480x8, .i32⟩
  | .hbm, ⟨14, _⟩ => ⟨S_, .i32⟩
  | .hbm, ⟨15, _⟩ => ⟨S40x4480x8, .i32⟩
  | .hbm, ⟨16, _⟩ => ⟨S40x4480x8, .i32⟩
  | .hbm, ⟨17, _⟩ => ⟨S40x35840, .i32⟩
  | .hbm, ⟨18, _⟩ => ⟨S40x35840, .bf16⟩
  | .hbm, ⟨19, _⟩ => ⟨S640x1x35840, .i32⟩
  | .hbm, ⟨20, _⟩ => ⟨S1x8x1, .i32⟩
  | .hbm, ⟨21, _⟩ => ⟨S640x8x35840, .i32⟩
  | .hbm, ⟨22, _⟩ => ⟨S640x8x35840, .i32⟩
  | .hbm, ⟨23, _⟩ => ⟨S640x8x35840, .i32⟩
  | .hbm, ⟨24, _⟩ => ⟨S_, .i32⟩
  | .hbm, ⟨25, _⟩ => ⟨S640x8x35840, .i32⟩
  | .hbm, ⟨26, _⟩ => ⟨S640x8x35840, .i32⟩
  | .hbm, ⟨27, _⟩ => ⟨S5120x35840, .i32⟩
  | .hbm, ⟨28, _⟩ => ⟨S5120x35840, .bf16⟩
  | .hbm, ⟨29, _⟩ => ⟨S_, .i32⟩
  | .hbm, ⟨30, _⟩ => ⟨S5120, .i32⟩
  | .hbm, ⟨31, _⟩ => ⟨S5120, .i1⟩
  | .hbm, ⟨32, _⟩ => ⟨S_, .i32⟩
  | .hbm, ⟨33, _⟩ => ⟨S5120, .i32⟩
  | .hbm, ⟨34, _⟩ => ⟨S5120, .i32⟩
  | .hbm, ⟨35, _⟩ => ⟨S5120, .i32⟩
  | .hbm, ⟨36, _⟩ => ⟨S5120x1, .i32⟩
  | .hbm, ⟨37, _⟩ => ⟨S5120x35840, .bf16⟩
  | .hbm, ⟨38, _⟩ => ⟨S5120x35840, .bf16⟩
  | .hbm, ⟨39, _⟩ => ⟨S_, .i32⟩
  | .hbm, ⟨40, _⟩ => ⟨S5120, .i32⟩
  | .hbm, ⟨41, _⟩ => ⟨S5120, .i1⟩
  | .hbm, ⟨42, _⟩ => ⟨S_, .i32⟩
  | .hbm, ⟨43, _⟩ => ⟨S5120, .i32⟩
  | .hbm, ⟨44, _⟩ => ⟨S5120, .i32⟩
  | .hbm, ⟨45, _⟩ => ⟨S5120, .i32⟩
  | .hbm, ⟨46, _⟩ => ⟨S5120x1, .i32⟩
  | .hbm, ⟨47, _⟩ => ⟨S5120x35840, .bf16⟩
  | .hbm, ⟨48, _⟩ => ⟨S5120x35840, .bf16⟩
  | .hbm, ⟨49, _⟩ => ⟨S64x5120, .bf16⟩
  | .hbm, ⟨50, _⟩ => ⟨S64x35840, .f32⟩
  | .hbm, ⟨51, _⟩ => ⟨S64x35840, .bf16⟩
  | _, _ => ⟨S64x1x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_c_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_c_2 : Ref sig .tc := ⟨.hbm, 29, rfl⟩
abbrev main_v21 : Ref sig .tc := ⟨.hbm, 30, rfl⟩
abbrev main_v22 : Ref sig .tc := ⟨.hbm, 31, rfl⟩
abbrev main_c_3 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_c_4 : Ref sig .tc := ⟨.hbm, 39, rfl⟩
abbrev main_v29 : Ref sig .tc := ⟨.hbm, 40, rfl⟩
abbrev main_v30 : Ref sig .tc := ⟨.hbm, 41, rfl⟩
abbrev main_c_5 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩

abbrev nD : Nat := 1
abbrev τ : Topo := Topo.v7x

variable {F : FTy → Type} [FloatOps F]
-- ==== Proof.KernelBody.lean ====
/- The kernel's body at one grid point, run once from any contents of its staging buffers and scratch, and the launch over the grid.

   The body finds the staged activations (`x1`), group indices (`x2`), packed weights (`x3`), scales (`x4`) and packed zeros (`x5`),
   and leaves in the output's staging buffer the pieces its four trips store.  Two of the three scratch buffers are written only in
   part before they are read, so without knowing that the group indices are in range what is stored depends on what the scratch
   held: the frame therefore runs the pipeline with the output FORGOTTEN, and the value claim supplies the output's closed form. -/
module

public import proofs.«01_k».proof.Proof.Gen.Kernel.Frame
public import proofs.«01_k».proof.Proof.Gen.Kernel.Skeleton
public import proofs.«01_k».proof.Proof.Gen.Kernel.Loops
public import Idealize.ShloMosaic.Lib.Pipeline.Frame
public import Idealize.ShloMosaic.Lib.Pipeline.FrameBody
public import Idealize.ShloMosaic.Lib.Tactic

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [BitOps F]

local notation "𝕄" => MT nD τ sig Unit (Elt F) ℕ (UR sig nD τ) ℕ

/-! ## The body, run once -/

/-- The scales' scratch after its one store before the loop: the transposed scales, two rows to a word, in lanes 0..39 over what it held. -/
abbrev scalesIn (a4 : Memref sig .tc .vmem S40x1024 .bf16) (a8 : Memref sig .tc .vmem S512x128 .i32)
    (f4 : BufTy.Contents (Elt F) a4.view.ty) (f8 : BufTy.Contents (Elt F) a8.view.ty) : BufTy.Contents (Elt F) a8.view.ty :=
  a8.view.writes (Elt F) f8 [⟨Rect.unit ![0, 0] S512x40.size inb_S512x128_S512x40_0_0,
    k0_pay1 (View.readAt (Elt F) a4.view (Rect.unit ![0, 0] S40x1024.size inb_S40x1024_S40x1024_0_0).toLoadRect f4)⟩]

/-- The zeros' scratch after its one store before the loop: the unpacked zeros in lanes 0..39 over what it held. -/
abbrev zerosIn (a5 : Memref sig .tc .vmem S40x128 .i32) (a9 : Memref sig .tc .vmem S512x128 .i32)
    (f5 : BufTy.Contents (Elt F) a5.view.ty) (f9 : BufTy.Contents (Elt F) a9.view.ty) : BufTy.Contents (Elt F) a9.view.ty :=
  a9.view.writes (Elt F) f9 [⟨Rect.unit ![0, 0] S512x40.size inb_S512x128_S512x40_0_0,
    k0_pay2 (View.readAt (Elt F) a5.view (Rect.unit ![0, 0] S40x128.size inb_S40x128_S40x128_0_0).toLoadRect f5)⟩]

/-- What the output's buffer reads as after the four trips of the loop. -/
def bodyOut (c : Dev nD) (i : grid0.Coords)
    (a1 : Memref sig .tc .vmem S64x5120 .bf16) (h1 : a1.IsWhole) (a2 : Memref sig .tc .vmem S40x128 .i32) (h2 : a2.IsWhole)
    (a3 : Memref sig .tc .vmem S640x1024 .i32) (h3 : a3.IsWhole) (a4 : Memref sig .tc .vmem S40x1024 .bf16) (h4 : a4.IsWhole)
    (a5 : Memref sig .tc .vmem S40x128 .i32) (h5 : a5.IsWhole) (a6 : Memref sig .tc .vmem S64x1024 .bf16) (h6 : a6.IsWhole)
    (a7 : Memref sig .tc .vmem S128x1280 .i32) (h7 : a7.IsWhole) (a8 : Memref sig .tc .vmem S512x128 .i32) (h8 : a8.IsWhole)
    (a9 : Memref sig .tc .vmem S512x128 .i32) (h9 : a9.IsWhole)
    (f1 : BufTy.Contents (Elt F) a1.view.ty) (f2 : BufTy.Contents (Elt F) a2.view.ty) (f3 : BufTy.Contents (Elt F) a3.view.ty)
    (f4 : BufTy.Contents (Elt F) a4.view.ty) (f5 : BufTy.Contents (Elt F) a5.view.ty) (f6 : BufTy.Contents (Elt F) a6.view.ty)
    (f7 : BufTy.Contents (Elt F) a7.view.ty) (f8 : BufTy.Contents (Elt F) a8.view.ty) (f9 : BufTy.Contents (Elt F) a9.view.ty) :
    Vec F S64x1024 .bf16 :=
  a6.view.read (Elt F) (a6.view.writes (Elt F) f6
    (pb_k0_t1 Variants.none c none i a1 h1 a2 h2 a3 h3 a4 h4 a5 h5 a6 h6 a7 h7 a8 h8 a9 h9 f1 f2 f3
      (scalesIn a4 a8 f4 f8) (zerosIn a5 a9 f5 f9) f6 f7 (Scf.trips k0_t1_loop.lb k0_t1_loop.ub k0_t1_loop.st)).1)

/-- The body's triple, for any continuation and any property `Q` of the output that every run's stored pieces satisfy: from the
    five inputs at their contents and the output and scratch at anything, the body runs to its return and hands back the inputs
    as they were, the output at contents satisfying `Q`, and the scratch at something. -/
theorem kernelRun (c : Dev nD) (i : grid0.Coords)
    (a1 : Memref sig .tc .vmem S64x5120 .bf16) (h1 : a1.IsWhole) (a2 : Memref sig .tc .vmem S40x128 .i32) (h2 : a2.IsWhole)
    (a3 : Memref sig .tc .vmem S640x1024 .i32) (h3 : a3.IsWhole) (a4 : Memref sig .tc .vmem S40x1024 .bf16) (h4 : a4.IsWhole)
    (a5 : Memref sig .tc .vmem S40x128 .i32) (h5 : a5.IsWhole) (a6 : Memref sig .tc .vmem S64x1024 .bf16) (h6 : a6.IsWhole)
    (a7 : Memref sig .tc .vmem S128x1280 .i32) (h7 : a7.IsWhole) (a8 : Memref sig .tc .vmem S512x128 .i32) (h8 : a8.IsWhole)
    (a9 : Memref sig .tc .vmem S512x128 .i32) (h9 : a9.IsWhole)
    (x1 : Vec F S64x5120 .bf16) (x2 : Vec F S40x128 .i32) (x3 : Vec F S640x1024 .i32) (x4 : Vec F S40x1024 .bf16) (x5 : Vec F S40x128 .i32)
    (Q : Vec F S64x1024 .bf16 → Prop)
    (hQ : ∀ f1 f2 f3 f4 f5 f6 f7 f8 f9, a1.view.read (Elt F) f1 = x1 → a2.view.read (Elt F) f2 = x2 → a3.view.read (Elt F) f3 = x3 →
      a4.view.read (Elt F) f4 = x4 → a5.view.read (Elt F) f5 = x5 →
      Q (bodyOut c i a1 h1 a2 h2 a3 h3 a4 h4 a5 h5 a6 h6 a7 h7 a8 h8 a9 h9 f1 f2 f3 f4 f5 f6 f7 f8 f9))
    (K : PUnit → sProp 𝕄) :
    iprop(owns (c : Thread nD τ) a1 fullShare x1 ∗ owns (c : Thread nD τ) a2 fullShare x2 ∗ owns (c : Thread nD τ) a3 fullShare x3
        ∗ owns (c : Thread nD τ) a4 fullShare x4 ∗ owns (c : Thread nD τ) a5 fullShare x5
        ∗ (∃ d, owns (c : Thread nD τ) a6 fullShare d) ∗ (∃ d, owns (c : Thread nD τ) a7 fullShare d)
        ∗ (∃ d, owns (c : Thread nD τ) a8 fullShare d) ∗ (∃ d, owns (c : Thread nD τ) a9 fullShare d)
        ∗ (iprop(owns (c : Thread nD τ) a1 fullShare x1 ∗ owns (c : Thread nD τ) a2 fullShare x2 ∗ owns (c : Thread nD τ) a3 fullShare x3
        ∗ owns (c : Thread nD τ) a4 fullShare x4 ∗ owns (c : Thread nD τ) a5 fullShare x5
        ∗ (∃ d, ⌜Q d⌝ ∗ owns (c : Thread nD τ) a6 fullShare d) ∗ (∃ d, owns (c : Thread nD τ) a7 fullShare d)
        ∗ (∃ d, owns (c : Thread nD τ) a8 fullShare d) ∗ (∃ d, owns (c : Thread nD τ) a9 fullShare d)) -∗ K ⟨⟩))
      ⊢ wp frame (wpE (defs₀ (F := F)) Variants.none c none) Set.univ
          (cc0_gptq_linear i a1 h1 a2 h2 a3 h3 a4 h4 a5 h5 a6 h6 a7 h7 a8 h8 a9 h9) K := by
  simp only [cc0_gptq_linear_eq_skeleton]; unfold cc0_gptq_linear_skel
  unfold owns
  iintro ⟨⟨%f1, %e1, H1⟩, ⟨%f2, %e2, H2⟩, ⟨%f3, %e3, H3⟩, ⟨%f4, %e4, H4⟩, ⟨%f5, %e5, H5⟩, ⟨%d6, %f6, -, H6⟩, ⟨%d7, %f7, -, H7⟩, ⟨%d8, %f8, -, H8⟩, ⟨%d9, %f9, -, H9⟩, Hk⟩
  sl_exec
  sl_step
  iapply Hk
  isplitl [H1]
  · iexists _; isplitr; swap; · iexact H1
    ipureintro; exact e1
  isplitl [H2]
  · iexists _; isplitr; swap; · iexact H2
    ipureintro; exact e2
  isplitl [H3]
  · iexists _; isplitr; swap; · iexact H3
    ipureintro; exact e3
  isplitl [H4]
  · iexists _; isplitr; swap; · iexact H4
    ipureintro; exact e4
  isplitl [H5]
  · iexists _; isplitr; swap; · iexact H5
    ipureintro; exact e5
  isplitl [H6]
  · iexists (bodyOut c i a1 h1 a2 h2 a3 h3 a4 h4 a5 h5 a6 h6 a7 h7 a8 h8 a9 h9 f1 f2 f3 f4 f5 f6 f7 f8 f9)
    isplitr
    · ipureintro; exact hQ f1 f2 f3 f4 f5 f6 f7 f8 f9 e1 e2 e3 e4 e5
    iexists _; isplitr; swap; · iexact H6
    ipureintro; rfl
  isplitl [H7]
  · iexists _, _; isplitr; swap; · iexact H7
    ipureintro; rfl
  isplitl [H8]
  · iexists _, _; isplitr; swap; · iexact H8
    ipureintro; rfl
  iexists _, _; isplitr; swap; · iexact H9
  ipureintro; rfl

variable (m : (ℓ : Loc nD τ sig) → Buf (Elt F) ℓ) (ρ : Dev nD → PrngReg)

/-! ## The proof data and the body obligation -/

/-- The three scratch buffers, whole. -/
abbrev wtM : Memref sig .tc .vmem S128x1280 .i32 := Memref.whole cc0_scratch0
abbrev stM : Memref sig .tc .vmem S512x128 .i32 := Memref.whole cc0_scratch1
abbrev ztM : Memref sig .tc .vmem S512x128 .i32 := Memref.whole cc0_scratch2

/-- The region invariant, conjunct by conjunct: the three scratch buffers owned at some contents and the generator register. -/
theorem PhiA0_eq (c : Dev nD) :
    (Pipeline.ΦA spec0 c : sProp 𝕄)
      = iprop(iprop((∃ d, owns (c : Thread nD τ) wtM fullShare d) ∗ (∃ d, owns (c : Thread nD τ) stM fullShare d)
          ∗ (∃ d, owns (c : Thread nD τ) ztM fullShare d)) ∗ (∃ r, prngReg c r)) := by
  unfold Pipeline.ΦA; rw [scopedRest0_eq]; simp only [wtM, stM, ztM, owns_whole]; try rfl

/-- The staging buffer window `w` is on at grid point `t`. -/
abbrev ms (w : Fin 6) (t : Fin cfg0.N) := (cfg0.win w).stage (cfg0.slots t w)

/-- The proof data on core `c`: the arrays as the region finds them; the inputs left in place and the output left at `out`; the
    scratch and generator register between points; full shares; nothing owed. -/
def dats (out : (c : Dev nD) → Fin cfg0.N → Vec F S64x1024 .bf16) (_ : Fin 1) (c : Dev nD) :
    Dat τ (Elt F) Unit ℕ (UR sig nD τ) ℕ cfg0 c where
  A w := V m c (Pipeline.arrRef spec0 w)
  after w t := match w with
    | 0 => iblk m c 0 t
    | 1 => iblk m c 1 t
    | 2 => iblk m c 2 t
    | 3 => iblk m c 3 t
    | 4 => iblk m c 4 t
    | 5 => out c t
  Φ _ := Pipeline.ΦA spec0 c
  q _ := fullShare
  owed _ := 0

variable (out : (c : Dev nD) → Fin cfg0.N → Vec F S64x1024 .bf16)

/-- The proof data's arrays are the ones the launch finds. -/
theorem A_eq (c : Dev nD) (w : Fin cfg0.W) : (dats m out 0 c).A w = V m c (Pipeline.arrRef spec0 w) := by dsimp only [dats]

/-- What the body is called with at point `t`: the invariant and every window's staging buffer, the output's at anything. -/
def bodyPre (c : Dev nD) (t : Fin cfg0.N) : sProp 𝕄 :=
  iprop((dats m out 0 c).Φ t.castSucc ∗ (dats m out 0 c).owesAt () t.castSucc
    ∗ (∃ d, owns (c : Thread nD τ) (ms 0 t) fullShare ((dats m out 0 c).before 0 t d))
    ∗ (∃ d, owns (c : Thread nD τ) (ms 1 t) fullShare ((dats m out 0 c).before 1 t d))
    ∗ (∃ d, owns (c : Thread nD τ) (ms 2 t) fullShare ((dats m out 0 c).before 2 t d))
    ∗ (∃ d, owns (c : Thread nD τ) (ms 3 t) fullShare ((dats m out 0 c).before 3 t d))
    ∗ (∃ d, owns (c : Thread nD τ) (ms 4 t) fullShare ((dats m out 0 c).before 4 t d))
    ∗ (∃ d, owns (c : Thread nD τ) (ms 5 t) fullShare d))

/-- What the body returns at point `t`: the inputs in place, the output at contents satisfying `Q`. -/
def bodyPost (Q : Vec F S64x1024 .bf16 → Prop) (c : Dev nD) (t : Fin cfg0.N) : sProp 𝕄 :=
  iprop((dats m out 0 c).Φ t.succ ∗ (dats m out 0 c).owesAt () t.succ
    ∗ owns (c : Thread nD τ) (ms 0 t) fullShare (iblk m c 0 t)
    ∗ owns (c : Thread nD τ) (ms 1 t) fullShare (iblk m c 1 t)
    ∗ owns (c : Thread nD τ) (ms 2 t) fullShare (iblk m c 2 t)
    ∗ owns (c : Thread nD τ) (ms 3 t) fullShare (iblk m c 3 t)
    ∗ owns (c : Thread nD τ) (ms 4 t) fullShare (iblk m c 4 t)
    ∗ (∃ d, ⌜Q d⌝ ∗ owns (c : Thread nD τ) (ms 5 t) fullShare d))

/-- Every output the body can leave at point `t`, from staged inputs at the point's blocks, satisfies `Q`. -/
def OutAt (Q : Vec F S64x1024 .bf16 → Prop) (c : Dev nD) (t : Fin cfg0.N) : Prop :=
  ∀ f1 f2 f3 f4 f5 f6 f7 f8 f9, (ms 0 t).view.read (Elt F) f1 = iblk m c 0 t → (ms 1 t).view.read (Elt F) f2 = iblk m c 1 t →
    (ms 2 t).view.read (Elt F) f3 = iblk m c 2 t → (ms 3 t).view.read (Elt F) f4 = iblk m c 3 t →
    (ms 4 t).view.read (Elt F) f5 = iblk m c 4 t →
    Q (bodyOut c (grid0.coords t) (ms 0 t) (hstage0_0 ((cfg0.slots t 0).cast nbuf0_0)) (ms 1 t) (hstage0_1 ((cfg0.slots t 1).cast nbuf0_1))
      (ms 2 t) (hstage0_2 ((cfg0.slots t 2).cast nbuf0_2)) (ms 3 t) (hstage0_3 ((cfg0.slots t 3).cast nbuf0_3))
      (ms 4 t) (hstage0_4 ((cfg0.slots t 4).cast nbuf0_4)) (ms 5 t) (hstage0_5 ((cfg0.slots t 5).cast nbuf0_5))
      wtM (Memref.isWhole_whole _) stM (Memref.isWhole_whole _) ztM (Memref.isWhole_whole _) f1 f2 f3 f4 f5 f6 f7 f8 f9)

/-- The body at the point: each input found at its block, `kernelRun`, the invariant closed. -/
theorem sound_body (c : Dev nD) (t : Fin cfg0.N) (Q : Vec F S64x1024 .bf16 → Prop) (hQ : OutAt m Q c t) :
    bodyPre m out c t ⊢ wp frame (wpE (defs₀ (F := F)) Variants.none c none) Set.univ (bodyAt0 t) (fun _ => bodyPost m out Q c t) := by
  unfold bodyPre bodyPost bodyAt0
  rw [show (dats m out 0 c).Φ t.succ = (dats m out 0 c).Φ t.castSucc from rfl,
    show (dats m out 0 c).owesAt () t.succ = (dats m out 0 c).owesAt () t.castSucc from rfl,
    show (dats m out 0 c).Φ t.castSucc = Pipeline.ΦA spec0 c from rfl, PhiA0_eq]
  simp only [before0_0_of m (dats m out 0 c) (A_eq m out c 0) (fun _ => rfl), before0_1_of m (dats m out 0 c) (A_eq m out c 1) (fun _ => rfl),
    before0_2_of m (dats m out 0 c) (A_eq m out c 2) (fun _ => rfl), before0_3_of m (dats m out 0 c) (A_eq m out c 3) (fun _ => rfl),
    before0_4_of m (dats m out 0 c) (A_eq m out c 4) (fun _ => rfl)]
  iintro ⟨⟨⟨HW, HS, HZ⟩, Hg⟩, HO, ⟨%d0, H0⟩, ⟨%d1, H1⟩, ⟨%d2, H2⟩, ⟨%d3, H3⟩, ⟨%d4, H4⟩, ⟨%d5, H5⟩⟩
  iapply (kernelRun c (grid0.coords t) (ms 0 t) (hstage0_0 ((cfg0.slots t 0).cast nbuf0_0)) (ms 1 t) (hstage0_1 ((cfg0.slots t 1).cast nbuf0_1))
      (ms 2 t) (hstage0_2 ((cfg0.slots t 2).cast nbuf0_2)) (ms 3 t) (hstage0_3 ((cfg0.slots t 3).cast nbuf0_3))
      (ms 4 t) (hstage0_4 ((cfg0.slots t 4).cast nbuf0_4)) (ms 5 t) (hstage0_5 ((cfg0.slots t 5).cast nbuf0_5))
      wtM (Memref.isWhole_whole _) stM (Memref.isWhole_whole _) ztM (Memref.isWhole_whole _)
      (iblk m c 0 t) (iblk m c 1 t) (iblk m c 2 t) (iblk m c 3 t) (iblk m c 4 t) Q hQ _)
  isplitl [H0]; · iexact H0
  isplitl [H1]; · iexact H1
  isplitl [H2]; · iexact H2
  isplitl [H3]; · iexact H3
  isplitl [H4]; · iexact H4
  isplitl [H5]; · iexists _; iexact H5
  isplitl [HW]; · iexact HW
  isplitl [HS]; · iexact HS
  isplitl [HZ]; · iexact HZ
  iintro ⟨H0, H1, H2, H3, H4, H5, HW, HS, HZ⟩
  isplitl [HW HS HZ Hg]
  · isplitl [HW HS HZ]
    · isplitl [HW]; · iexact HW
      isplitl [HS]; · iexact HS
      iexact HZ
    iexact Hg
  isplitl [HO]; · iexact HO
  isplitl [H0]; · iexact H0
  isplitl [H1]; · iexact H1
  isplitl [H2]; · iexact H2
  isplitl [H3]; · iexact H3
  isplitl [H4]; · iexact H4
  iexact H5

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The windows the frame forgets: the output. -/
def forgets0 : Fin 6 → Bool := fun w => w == 5

/-- An output satisfying a property is an output. -/
theorem bodyPost_any (Q : Vec F S64x1024 .bf16 → Prop) (c : Dev nD) (t : Fin cfg0.N) :
    bodyPost m out Q c t ⊢ iprop((dats m out 0 c).Φ t.succ ∗ (dats m out 0 c).owesAt () t.succ
    ∗ owns (c : Thread nD τ) (ms 0 t) fullShare (iblk m c 0 t)
    ∗ owns (c : Thread nD τ) (ms 1 t) fullShare (iblk m c 1 t)
    ∗ owns (c : Thread nD τ) (ms 2 t) fullShare (iblk m c 2 t)
    ∗ owns (c : Thread nD τ) (ms 3 t) fullShare (iblk m c 3 t)
    ∗ owns (c : Thread nD τ) (ms 4 t) fullShare (iblk m c 4 t)
    ∗ (∃ d, owns (c : Thread nD τ) (ms 5 t) fullShare d)) := by
  unfold bodyPost
  iintro ⟨H, HO, H0, H1, H2, H3, H4, ⟨%d, -, H5⟩⟩
  isplitl [H]; · iexact H
  isplitl [HO]; · iexact HO
  isplitl [H0]; · iexact H0
  isplitl [H1]; · iexact H1
  isplitl [H2]; · iexact H2
  isplitl [H3]; · iexact H3
  isplitl [H4]; · iexact H4
  iexists _; iexact H5

/-- An output that must be `out` is `out`. -/
theorem bodyPost_exact (c : Dev nD) (t : Fin cfg0.N) :
    bodyPost m out (· = out c t) c t ⊢ iprop((dats m out 0 c).Φ t.succ ∗ (dats m out 0 c).owesAt () t.succ
    ∗ owns (c : Thread nD τ) (ms 0 t) fullShare (iblk m c 0 t)
    ∗ owns (c : Thread nD τ) (ms 1 t) fullShare (iblk m c 1 t)
    ∗ owns (c : Thread nD τ) (ms 2 t) fullShare (iblk m c 2 t)
    ∗ owns (c : Thread nD τ) (ms 3 t) fullShare (iblk m c 3 t)
    ∗ owns (c : Thread nD τ) (ms 4 t) fullShare (iblk m c 4 t)
    ∗ owns (c : Thread nD τ) (ms 5 t) fullShare (out c t)) := by
  unfold bodyPost
  iintro ⟨H, HO, H0, H1, H2, H3, H4, ⟨%d, %e, H5⟩⟩
  isplitl [H]; · iexact H
  isplitl [HO]; · iexact HO
  isplitl [H0]; · iexact H0
  isplitl [H1]; · iexact H1
  isplitl [H2]; · iexact H2
  isplitl [H3]; · iexact H3
  isplitl [H4]; · iexact H4
  subst e; iexact H5

/-- The body obligation with the output forgotten. -/
theorem body_obligation_forget (c : Dev nD) :
    BodyObligation (dats (F := F) m out 0 c) (defs₀ (F := F)) Variants.none () Set.univ forgets0 := fun t => by
  rw [bigSep_W0, bigSep_W0, defs₀_row]
  exact triple_restated (sound_body m out c t (fun _ => True) fun _ _ _ _ _ _ _ _ _ _ _ _ _ _ => trivial) rfl .rfl
    fun _ => bodyPost_any m out _ c t

/-- The body obligation with the output named: every output the body can leave at a point is `out`'s. -/
theorem body_obligation (c : Dev nD) (hout : ∀ t, OutAt m (· = out c t) c t) :
    BodyObligation (dats (F := F) m out 0 c) (defs₀ (F := F)) Variants.none () Set.univ := fun t => by
  have hb : (∃ d, owns (c : Thread nD τ) (ms 5 t) fullShare ((dats m out 0 c).before 5 t d) : sProp 𝕄)
      ⊢ iprop(∃ d, owns (c : Thread nD τ) (ms 5 t) fullShare d) := by
    iintro ⟨%d, H⟩; iexists _; iexact H
  rw [bigSep_W0, bigSep_W0, defs₀_row]
  refine triple_restated (sound_body m out c t _ (hout t)) rfl ?_ fun _ => bodyPost_exact m out c t
  unfold bodyPre
  iintro ⟨H, HO, H0, H1, H2, H3, H4, H5⟩
  isplitl [H]; · iexact H
  isplitl [HO]; · iexact HO
  isplitl [H0]; · iexact H0
  isplitl [H1]; · iexact H1
  isplitl [H2]; · iexact H2
  isplitl [H3]; · iexact H3
  isplitl [H4]; · iexact H4
  iapply hb; iexact H5

/-! ## The launch -/

set_option backward.isDefEq.respectTransparency.types false in
/-- The run with the output forgotten: from any memory with zero counters every weakly fair execution of @main terminates with
    every input array and every bypassing buffer at its contents on entry and every counter at zero. -/
theorem run_forget :
    θ_run defs (onTc (τ := τ) (main (F := F))) (s₀ m ρ)
      (fun r => Pipeline.RDat.FramePost (cfgs 0) (fun c => (dats m out 0 c).toRForget forgets0) (V m) r ∧ r.2.sem = fun _ => 0) :=
  Pipeline.θ_run_frame_forget (Q' := _) cfgs (dats m out) (0 : Fin 1) launch0 defs₀ Variants.none forgets0 m ρ main
    (hbody := fun c => (body_obligation_forget m out c).loose) (hshare := fun c => (dats m out 0 c).share_full fun _ => rfl)
    (howed := fun _ _ => rfl) (V := V m) (hmain := Gen.hmain m Variants.none) (hA := A_eq m out) (hΦ := fun _ _ => rfl)

set_option backward.isDefEq.respectTransparency.types false in
/-- The run with the output named, when every output the body can leave is `out`'s. -/
theorem run_main (hout : ∀ c t, OutAt m (· = out c t) c t) :
    θ_run defs (onTc (τ := τ) (main (F := F))) (s₀ m ρ)
      (fun r => Pipeline.FramePost cfgs (dats m out) 0 (V m) r ∧ r.2.sem = fun _ => 0) :=
  Pipeline.θ_run_frame (Q' := _) cfgs (dats m out) (0 : Fin 1) launch0 defs₀ Variants.none m ρ main
    (hbody := fun c => (body_obligation m out c (hout c)).loose) (hshare := fun c => (dats m out 0 c).share_full fun _ => rfl)
    (howed := fun _ _ => rfl) (V := V m) (hmain := Gen.hmain m Variants.none) (hA := A_eq m out) (hΦ := fun _ _ => rfl)

/-- THE FRAME: every weakly fair execution of @main terminates with the five arguments as launched and every counter at zero. -/
theorem frame :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun _ h => ⟨fun c =>
     ⟨((h.1 c).2 main_arg0 (Pipeline.mem_restRefs_of main_arg0 (by decide) (by decide))).trans (V_main_arg0 m c),
      ((Pipeline.RDat.FramePost.arr_in h.1 c 2 rfl)).trans (V_main_arg1 m c),
      ((Pipeline.RDat.FramePost.arr_in h.1 c 3 rfl)).trans (V_main_arg2 m c),
      ((Pipeline.RDat.FramePost.arr_in h.1 c 4 rfl)).trans (V_main_arg3 m c),
      ((h.1 c).2 main_arg4 (Pipeline.mem_restRefs_of main_arg4 (by decide) (by decide))).trans (V_main_arg4 m c)⟩, h.2⟩)
    (run_forget m ρ fun _ t => Pipeline.Dat.unnamed (cfg := cfg0) 5 t)

end Cert.Kernel.Hand

end
-- ==== Proof.KernelIdealBody.lean ====
/- The kernel's body at one grid point, run once from any contents of its staging buffers and scratch, and the launch over the grid.

   The body finds the staged activations (`x1`), group indices (`x2`), packed weights (`x3`), scales (`x4`) and packed zeros (`x5`),
   and leaves in the output's staging buffer the pieces its four trips store.  Two of the three scratch buffers are written only in
   part before they are read, so without knowing that the group indices are in range what is stored depends on what the scratch
   held: the frame therefore runs the pipeline with the output FORGOTTEN, and the value claim supplies the output's closed form. -/
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Pipeline.Frame
public import Idealize.ShloMosaic.Lib.Pipeline.FrameBody
public import Idealize.ShloMosaic.Lib.Tactic

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

/-! ## The body, run once -/

/-- The scales' scratch after its one store before the loop: the transposed scales, two rows to a pair, in lanes 0..39 over what it held. -/
abbrev scalesIn (a4 : Memref sig .tc .vmem S40x1024 .bf16) (a8 : Memref sig .tc .vmem S512x2x128 .bf16)
    (f4 : BufTy.Contents (Elt F) a4.view.ty) (f8 : BufTy.Contents (Elt F) a8.view.ty) : BufTy.Contents (Elt F) a8.view.ty :=
  a8.view.writes (Elt F) f8 [⟨Rect.unit ![0, 0, 0] S512x2x40.size inb_S512x2x128_S512x2x40_0_0_0,
    k0_pay1 (View.readAt (Elt F) a4.view (Rect.unit ![0, 0] S40x1024.size inb_S40x1024_S40x1024_0_0).toLoadRect f4)⟩]

/-- The zeros' scratch after its one store before the loop: the unpacked zeros in lanes 0..39 over what it held. -/
abbrev zerosIn (a5 : Memref sig .tc .vmem S40x128 .i32) (a9 : Memref sig .tc .vmem S512x128 .i32)
    (f5 : BufTy.Contents (Elt F) a5.view.ty) (f9 : BufTy.Contents (Elt F) a9.view.ty) : BufTy.Contents (Elt F) a9.view.ty :=
  a9.view.writes (Elt F) f9 [⟨Rect.unit ![0, 0] S512x40.size inb_S512x128_S512x40_0_0,
    k0_pay2 (View.readAt (Elt F) a5.view (Rect.unit ![0, 0] S40x128.size inb_S40x128_S40x128_0_0).toLoadRect f5)⟩]

/-- What the output's buffer reads as after the four trips of the loop. -/
def bodyOut (c : Dev nD) (i : grid0.Coords)
    (a1 : Memref sig .tc .vmem S64x5120 .bf16) (h1 : a1.IsWhole) (a2 : Memref sig .tc .vmem S40x128 .i32) (h2 : a2.IsWhole)
    (a3 : Memref sig .tc .vmem S640x1024 .i32) (h3 : a3.IsWhole) (a4 : Memref sig .tc .vmem S40x1024 .bf16) (h4 : a4.IsWhole)
    (a5 : Memref sig .tc .vmem S40x128 .i32) (h5 : a5.IsWhole) (a6 : Memref sig .tc .vmem S64x1024 .bf16) (h6 : a6.IsWhole)
    (a7 : Memref sig .tc .vmem S128x1280 .i32) (h7 : a7.IsWhole) (a8 : Memref sig .tc .vmem S512x2x128 .bf16) (h8 : a8.IsWhole)
    (a9 : Memref sig .tc .vmem S512x128 .i32) (h9 : a9.IsWhole)
    (f1 : BufTy.Contents (Elt F) a1.view.ty) (f2 : BufTy.Contents (Elt F) a2.view.ty) (f3 : BufTy.Contents (Elt F) a3.view.ty)
    (f4 : BufTy.Contents (Elt F) a4.view.ty) (f5 : BufTy.Contents (Elt F) a5.view.ty) (f6 : BufTy.Contents (Elt F) a6.view.ty)
    (f7 : BufTy.Contents (Elt F) a7.view.ty) (f8 : BufTy.Contents (Elt F) a8.view.ty) (f9 : BufTy.Contents (Elt F) a9.view.ty) :
    Vec F S64x1024 .bf16 :=
  a6.view.read (Elt F) (a6.view.writes (Elt F) f6
    (pb_k0_t1 Variants.none c none i a1 h1 a2 h2 a3 h3 a4 h4 a5 h5 a6 h6 a7 h7 a8 h8 a9 h9 f1 f2 f3
      (scalesIn a4 a8 f4 f8) (zerosIn a5 a9 f5 f9) f6 f7 (Scf.trips k0_t1_loop.lb k0_t1_loop.ub k0_t1_loop.st)).1)

/-- The body's triple, for any continuation and any property `Q` of the output that every run's stored pieces satisfy: from the
    five inputs at their contents and the output and scratch at anything, the body runs to its return and hands back the inputs
    as they were, the output at contents satisfying `Q`, and the scratch at something. -/
theorem kernelRun (c : Dev nD) (i : grid0.Coords)
    (a1 : Memref sig .tc .vmem S64x5120 .bf16) (h1 : a1.IsWhole) (a2 : Memref sig .tc .vmem S40x128 .i32) (h2 : a2.IsWhole)
    (a3 : Memref sig .tc .vmem S640x1024 .i32) (h3 : a3.IsWhole) (a4 : Memref sig .tc .vmem S40x1024 .bf16) (h4 : a4.IsWhole)
    (a5 : Memref sig .tc .vmem S40x128 .i32) (h5 : a5.IsWhole) (a6 : Memref sig .tc .vmem S64x1024 .bf16) (h6 : a6.IsWhole)
    (a7 : Memref sig .tc .vmem S128x1280 .i32) (h7 : a7.IsWhole) (a8 : Memref sig .tc .vmem S512x2x128 .bf16) (h8 : a8.IsWhole)
    (a9 : Memref sig .tc .vmem S512x128 .i32) (h9 : a9.IsWhole)
    (x1 : Vec F S64x5120 .bf16) (x2 : Vec F S40x128 .i32) (x3 : Vec F S640x1024 .i32) (x4 : Vec F S40x1024 .bf16) (x5 : Vec F S40x128 .i32)
    (Q : Vec F S64x1024 .bf16 → Prop)
    (hQ : ∀ f1 f2 f3 f4 f5 f6 f7 f8 f9, a1.view.read (Elt F) f1 = x1 → a2.view.read (Elt F) f2 = x2 → a3.view.read (Elt F) f3 = x3 →
      a4.view.read (Elt F) f4 = x4 → a5.view.read (Elt F) f5 = x5 →
      Q (bodyOut c i a1 h1 a2 h2 a3 h3 a4 h4 a5 h5 a6 h6 a7 h7 a8 h8 a9 h9 f1 f2 f3 f4 f5 f6 f7 f8 f9))
    (K : PUnit → sProp 𝕄) :
    iprop(owns (c : Thread nD τ) a1 fullShare x1 ∗ owns (c : Thread nD τ) a2 fullShare x2 ∗ owns (c : Thread nD τ) a3 fullShare x3
        ∗ owns (c : Thread nD τ) a4 fullShare x4 ∗ owns (c : Thread nD τ) a5 fullShare x5
        ∗ (∃ d, owns (c : Thread nD τ) a6 fullShare d) ∗ (∃ d, owns (c : Thread nD τ) a7 fullShare d)
        ∗ (∃ d, owns (c : Thread nD τ) a8 fullShare d) ∗ (∃ d, owns (c : Thread nD τ) a9 fullShare d)
        ∗ (iprop(owns (c : Thread nD τ) a1 fullShare x1 ∗ owns (c : Thread nD τ) a2 fullShare x2 ∗ owns (c : Thread nD τ) a3 fullShare x3
        ∗ owns (c : Thread nD τ) a4 fullShare x4 ∗ owns (c : Thread nD τ) a5 fullShare x5
        ∗ (∃ d, ⌜Q d⌝ ∗ owns (c : Thread nD τ) a6 fullShare d) ∗ (∃ d, owns (c : Thread nD τ) a7 fullShare d)
        ∗ (∃ d, owns (c : Thread nD τ) a8 fullShare d) ∗ (∃ d, owns (c : Thread nD τ) a9 fullShare d)) -∗ K ⟨⟩))
      ⊢ wp frame (wpE (defs₀ (F := F)) Variants.none c none) Set.univ
          (cc0_gptq_linear i a1 h1 a2 h2 a3 h3 a4 h4 a5 h5 a6 h6 a7 h7 a8 h8 a9 h9) K := by
  simp only [cc0_gptq_linear_eq_skeleton]; unfold cc0_gptq_linear_skel
  unfold owns
  iintro ⟨⟨%f1, %e1, H1⟩, ⟨%f2, %e2, H2⟩, ⟨%f3, %e3, H3⟩, ⟨%f4, %e4, H4⟩, ⟨%f5, %e5, H5⟩, ⟨%d6, %f6, -, H6⟩, ⟨%d7, %f7, -, H7⟩, ⟨%d8, %f8, -, H8⟩, ⟨%d9, %f9, -, H9⟩, Hk⟩
  sl_exec
  sl_step
  iapply Hk
  isplitl [H1]
  · iexists _; isplitr; swap; · iexact H1
    ipureintro; exact e1
  isplitl [H2]
  · iexists _; isplitr; swap; · iexact H2
    ipureintro; exact e2
  isplitl [H3]
  · iexists _; isplitr; swap; · iexact H3
    ipureintro; exact e3
  isplitl [H4]
  · iexists _; isplitr; swap; · iexact H4
    ipureintro; exact e4
  isplitl [H5]
  · iexists _; isplitr; swap; · iexact H5
    ipureintro; exact e5
  isplitl [H6]
  · iexists (bodyOut c i a1 h1 a2 h2 a3 h3 a4 h4 a5 h5 a6 h6 a7 h7 a8 h8 a9 h9 f1 f2 f3 f4 f5 f6 f7 f8 f9)
    isplitr
    · ipureintro; exact hQ f1 f2 f3 f4 f5 f6 f7 f8 f9 e1 e2 e3 e4 e5
    iexists _; isplitr; swap; · iexact H6
    ipureintro; rfl
  isplitl [H7]
  · iexists _, _; isplitr; swap; · iexact H7
    ipureintro; rfl
  isplitl [H8]
  · iexists _, _; isplitr; swap; · iexact H8
    ipureintro; rfl
  iexists _, _; isplitr; swap; · iexact H9
  ipureintro; rfl

variable (m : (ℓ : Loc nD τ sig) → Buf (Elt F) ℓ) (ρ : Dev nD → PrngReg)

/-! ## The proof data and the body obligation -/

/-- The three scratch buffers, whole. -/
abbrev wtM : Memref sig .tc .vmem S128x1280 .i32 := Memref.whole cc0_scratch0
abbrev stM : Memref sig .tc .vmem S512x2x128 .bf16 := Memref.whole cc0_scratch1
abbrev ztM : Memref sig .tc .vmem S512x128 .i32 := Memref.whole cc0_scratch2

/-- The region invariant, conjunct by conjunct: the three scratch buffers owned at some contents and the generator register. -/
theorem PhiA0_eq (c : Dev nD) :
    (Pipeline.ΦA spec0 c : sProp 𝕄)
      = iprop(iprop((∃ d, owns (c : Thread nD τ) wtM fullShare d) ∗ (∃ d, owns (c : Thread nD τ) stM fullShare d)
          ∗ (∃ d, owns (c : Thread nD τ) ztM fullShare d)) ∗ (∃ r, prngReg c r)) := by
  unfold Pipeline.ΦA; rw [scopedRest0_eq]; simp only [wtM, stM, ztM, owns_whole]; try rfl

/-- The staging buffer window `w` is on at grid point `t`. -/
abbrev ms (w : Fin 6) (t : Fin cfg0.N) := (cfg0.win w).stage (cfg0.slots t w)

/-- The proof data on core `c`: the arrays as the region finds them; the inputs left in place and the output left at `out`; the
    scratch and generator register between points; full shares; nothing owed. -/
def dats (out : (c : Dev nD) → Fin cfg0.N → Vec F S64x1024 .bf16) (_ : Fin 1) (c : Dev nD) :
    Dat τ (Elt F) Unit ℕ (UR sig nD τ) ℕ cfg0 c where
  A w := V m c (Pipeline.arrRef spec0 w)
  after w t := match w with
    | 0 => iblk m c 0 t
    | 1 => iblk m c 1 t
    | 2 => iblk m c 2 t
    | 3 => iblk m c 3 t
    | 4 => iblk m c 4 t
    | 5 => out c t
  Φ _ := Pipeline.ΦA spec0 c
  q _ := fullShare
  owed _ := 0

variable (out : (c : Dev nD) → Fin cfg0.N → Vec F S64x1024 .bf16)

/-- The proof data's arrays are the ones the launch finds. -/
theorem A_eq (c : Dev nD) (w : Fin cfg0.W) : (dats m out 0 c).A w = V m c (Pipeline.arrRef spec0 w) := by dsimp only [dats]

/-- What the body is called with at point `t`: the invariant and every window's staging buffer, the output's at anything. -/
def bodyPre (c : Dev nD) (t : Fin cfg0.N) : sProp 𝕄 :=
  iprop((dats m out 0 c).Φ t.castSucc ∗ (dats m out 0 c).owesAt () t.castSucc
    ∗ (∃ d, owns (c : Thread nD τ) (ms 0 t) fullShare ((dats m out 0 c).before 0 t d))
    ∗ (∃ d, owns (c : Thread nD τ) (ms 1 t) fullShare ((dats m out 0 c).before 1 t d))
    ∗ (∃ d, owns (c : Thread nD τ) (ms 2 t) fullShare ((dats m out 0 c).before 2 t d))
    ∗ (∃ d, owns (c : Thread nD τ) (ms 3 t) fullShare ((dats m out 0 c).before 3 t d))
    ∗ (∃ d, owns (c : Thread nD τ) (ms 4 t) fullShare ((dats m out 0 c).before 4 t d))
    ∗ (∃ d, owns (c : Thread nD τ) (ms 5 t) fullShare d))

/-- What the body returns at point `t`: the inputs in place, the output at contents satisfying `Q`. -/
def bodyPost (Q : Vec F S64x1024 .bf16 → Prop) (c : Dev nD) (t : Fin cfg0.N) : sProp 𝕄 :=
  iprop((dats m out 0 c).Φ t.succ ∗ (dats m out 0 c).owesAt () t.succ
    ∗ owns (c : Thread nD τ) (ms 0 t) fullShare (iblk m c 0 t)
    ∗ owns (c : Thread nD τ) (ms 1 t) fullShare (iblk m c 1 t)
    ∗ owns (c : Thread nD τ) (ms 2 t) fullShare (iblk m c 2 t)
    ∗ owns (c : Thread nD τ) (ms 3 t) fullShare (iblk m c 3 t)
    ∗ owns (c : Thread nD τ) (ms 4 t) fullShare (iblk m c 4 t)
    ∗ (∃ d, ⌜Q d⌝ ∗ owns (c : Thread nD τ) (ms 5 t) fullShare d))

/-- Every output the body can leave at point `t`, from staged inputs at the point's blocks, satisfies `Q`. -/
def OutAt (Q : Vec F S64x1024 .bf16 → Prop) (c : Dev nD) (t : Fin cfg0.N) : Prop :=
  ∀ f1 f2 f3 f4 f5 f6 f7 f8 f9, (ms 0 t).view.read (Elt F) f1 = iblk m c 0 t → (ms 1 t).view.read (Elt F) f2 = iblk m c 1 t →
    (ms 2 t).view.read (Elt F) f3 = iblk m c 2 t → (ms 3 t).view.read (Elt F) f4 = iblk m c 3 t →
    (ms 4 t).view.read (Elt F) f5 = iblk m c 4 t →
    Q (bodyOut c (grid0.coords t) (ms 0 t) (hstage0_0 ((cfg0.slots t 0).cast nbuf0_0)) (ms 1 t) (hstage0_1 ((cfg0.slots t 1).cast nbuf0_1))
      (ms 2 t) (hstage0_2 ((cfg0.slots t 2).cast nbuf0_2)) (ms 3 t) (hstage0_3 ((cfg0.slots t 3).cast nbuf0_3))
      (ms 4 t) (hstage0_4 ((cfg0.slots t 4).cast nbuf0_4)) (ms 5 t) (hstage0_5 ((cfg0.slots t 5).cast nbuf0_5))
      wtM (Memref.isWhole_whole _) stM (Memref.isWhole_whole _) ztM (Memref.isWhole_whole _) f1 f2 f3 f4 f5 f6 f7 f8 f9)

/-- The body at the point: each input found at its block, `kernelRun`, the invariant closed. -/
theorem sound_body (c : Dev nD) (t : Fin cfg0.N) (Q : Vec F S64x1024 .bf16 → Prop) (hQ : OutAt m Q c t) :
    bodyPre m out c t ⊢ wp frame (wpE (defs₀ (F := F)) Variants.none c none) Set.univ (bodyAt0 t) (fun _ => bodyPost m out Q c t) := by
  unfold bodyPre bodyPost bodyAt0
  rw [show (dats m out 0 c).Φ t.succ = (dats m out 0 c).Φ t.castSucc from rfl,
    show (dats m out 0 c).owesAt () t.succ = (dats m out 0 c).owesAt () t.castSucc from rfl,
    show (dats m out 0 c).Φ t.castSucc = Pipeline.ΦA spec0 c from rfl, PhiA0_eq]
  simp only [before0_0_of m (dats m out 0 c) (A_eq m out c 0) (fun _ => rfl), before0_1_of m (dats m out 0 c) (A_eq m out c 1) (fun _ => rfl),
    before0_2_of m (dats m out 0 c) (A_eq m out c 2) (fun _ => rfl), before0_3_of m (dats m out 0 c) (A_eq m out c 3) (fun _ => rfl),
    before0_4_of m (dats m out 0 c) (A_eq m out c 4) (fun _ => rfl)]
  iintro ⟨⟨⟨HW, HS, HZ⟩, Hg⟩, HO, ⟨%d0, H0⟩, ⟨%d1, H1⟩, ⟨%d2, H2⟩, ⟨%d3, H3⟩, ⟨%d4, H4⟩, ⟨%d5, H5⟩⟩
  iapply (kernelRun c (grid0.coords t) (ms 0 t) (hstage0_0 ((cfg0.slots t 0).cast nbuf0_0)) (ms 1 t) (hstage0_1 ((cfg0.slots t 1).cast nbuf0_1))
      (ms 2 t) (hstage0_2 ((cfg0.slots t 2).cast nbuf0_2)) (ms 3 t) (hstage0_3 ((cfg0.slots t 3).cast nbuf0_3))
      (ms 4 t) (hstage0_4 ((cfg0.slots t 4).cast nbuf0_4)) (ms 5 t) (hstage0_5 ((cfg0.slots t 5).cast nbuf0_5))
      wtM (Memref.isWhole_whole _) stM (Memref.isWhole_whole _) ztM (Memref.isWhole_whole _)
      (iblk m c 0 t) (iblk m c 1 t) (iblk m c 2 t) (iblk m c 3 t) (iblk m c 4 t) Q hQ _)
  isplitl [H0]; · iexact H0
  isplitl [H1]; · iexact H1
  isplitl [H2]; · iexact H2
  isplitl [H3]; · iexact H3
  isplitl [H4]; · iexact H4
  isplitl [H5]; · iexists _; iexact H5
  isplitl [HW]; · iexact HW
  isplitl [HS]; · iexact HS
  isplitl [HZ]; · iexact HZ
  iintro ⟨H0, H1, H2, H3, H4, H5, HW, HS, HZ⟩
  isplitl [HW HS HZ Hg]
  · isplitl [HW HS HZ]
    · isplitl [HW]; · iexact HW
      isplitl [HS]; · iexact HS
      iexact HZ
    iexact Hg
  isplitl [HO]; · iexact HO
  isplitl [H0]; · iexact H0
  isplitl [H1]; · iexact H1
  isplitl [H2]; · iexact H2
  isplitl [H3]; · iexact H3
  isplitl [H4]; · iexact H4
  iexact H5

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The windows the frame forgets: the output. -/
def forgets0 : Fin 6 → Bool := fun w => w == 5

/-- An output satisfying a property is an output. -/
theorem bodyPost_any (Q : Vec F S64x1024 .bf16 → Prop) (c : Dev nD) (t : Fin cfg0.N) :
    bodyPost m out Q c t ⊢ iprop((dats m out 0 c).Φ t.succ ∗ (dats m out 0 c).owesAt () t.succ
    ∗ owns (c : Thread nD τ) (ms 0 t) fullShare (iblk m c 0 t)
    ∗ owns (c : Thread nD τ) (ms 1 t) fullShare (iblk m c 1 t)
    ∗ owns (c : Thread nD τ) (ms 2 t) fullShare (iblk m c 2 t)
    ∗ owns (c : Thread nD τ) (ms 3 t) fullShare (iblk m c 3 t)
    ∗ owns (c : Thread nD τ) (ms 4 t) fullShare (iblk m c 4 t)
    ∗ (∃ d, owns (c : Thread nD τ) (ms 5 t) fullShare d)) := by
  unfold bodyPost
  iintro ⟨H, HO, H0, H1, H2, H3, H4, ⟨%d, -, H5⟩⟩
  isplitl [H]; · iexact H
  isplitl [HO]; · iexact HO
  isplitl [H0]; · iexact H0
  isplitl [H1]; · iexact H1
  isplitl [H2]; · iexact H2
  isplitl [H3]; · iexact H3
  isplitl [H4]; · iexact H4
  iexists _; iexact H5

/-- An output that must be `out` is `out`. -/
theorem bodyPost_exact (c : Dev nD) (t : Fin cfg0.N) :
    bodyPost m out (· = out c t) c t ⊢ iprop((dats m out 0 c).Φ t.succ ∗ (dats m out 0 c).owesAt () t.succ
    ∗ owns (c : Thread nD τ) (ms 0 t) fullShare (iblk m c 0 t)
    ∗ owns (c : Thread nD τ) (ms 1 t) fullShare (iblk m c 1 t)
    ∗ owns (c : Thread nD τ) (ms 2 t) fullShare (iblk m c 2 t)
    ∗ owns (c : Thread nD τ) (ms 3 t) fullShare (iblk m c 3 t)
    ∗ owns (c : Thread nD τ) (ms 4 t) fullShare (iblk m c 4 t)
    ∗ owns (c : Thread nD τ) (ms 5 t) fullShare (out c t)) := by
  unfold bodyPost
  iintro ⟨H, HO, H0, H1, H2, H3, H4, ⟨%d, %e, H5⟩⟩
  isplitl [H]; · iexact H
  isplitl [HO]; · iexact HO
  isplitl [H0]; · iexact H0
  isplitl [H1]; · iexact H1
  isplitl [H2]; · iexact H2
  isplitl [H3]; · iexact H3
  isplitl [H4]; · iexact H4
  subst e; iexact H5

/-- The body obligation with the output forgotten. -/
theorem body_obligation_forget (c : Dev nD) :
    BodyObligation (dats (F := F) m out 0 c) (defs₀ (F := F)) Variants.none () Set.univ forgets0 := fun t => by
  rw [bigSep_W0, bigSep_W0, defs₀_row]
  exact triple_restated (sound_body m out c t (fun _ => True) fun _ _ _ _ _ _ _ _ _ _ _ _ _ _ => trivial) rfl .rfl
    fun _ => bodyPost_any m out _ c t

/-- The body obligation with the output named: every output the body can leave at a point is `out`'s. -/
theorem body_obligation (c : Dev nD) (hout : ∀ t, OutAt m (· = out c t) c t) :
    BodyObligation (dats (F := F) m out 0 c) (defs₀ (F := F)) Variants.none () Set.univ := fun t => by
  have hb : (∃ d, owns (c : Thread nD τ) (ms 5 t) fullShare ((dats m out 0 c).before 5 t d) : sProp 𝕄)
      ⊢ iprop(∃ d, owns (c : Thread nD τ) (ms 5 t) fullShare d) := by
    iintro ⟨%d, H⟩; iexists _; iexact H
  rw [bigSep_W0, bigSep_W0, defs₀_row]
  refine triple_restated (sound_body m out c t _ (hout t)) rfl ?_ fun _ => bodyPost_exact m out c t
  unfold bodyPre
  iintro ⟨H, HO, H0, H1, H2, H3, H4, H5⟩
  isplitl [H]; · iexact H
  isplitl [HO]; · iexact HO
  isplitl [H0]; · iexact H0
  isplitl [H1]; · iexact H1
  isplitl [H2]; · iexact H2
  isplitl [H3]; · iexact H3
  isplitl [H4]; · iexact H4
  iapply hb; iexact H5

/-! ## The launch -/

set_option backward.isDefEq.respectTransparency.types false in
/-- The run with the output forgotten: from any memory with zero counters every weakly fair execution of @main terminates with
    every input array and every bypassing buffer at its contents on entry and every counter at zero. -/
theorem run_forget :
    θ_run defs (onTc (τ := τ) (main (F := F))) (s₀ m ρ)
      (fun r => Pipeline.RDat.FramePost (cfgs 0) (fun c => (dats m out 0 c).toRForget forgets0) (V m) r ∧ r.2.sem = fun _ => 0) :=
  Pipeline.θ_run_frame_forget (Q' := _) cfgs (dats m out) (0 : Fin 1) launch0 defs₀ Variants.none forgets0 m ρ main
    (hbody := fun c => (body_obligation_forget m out c).loose) (hshare := fun c => (dats m out 0 c).share_full fun _ => rfl)
    (howed := fun _ _ => rfl) (V := V m) (hmain := Gen.hmain m Variants.none) (hA := A_eq m out) (hΦ := fun _ _ => rfl)

set_option backward.isDefEq.respectTransparency.types false in
/-- The run with the output named, when every output the body can leave is `out`'s. -/
theorem run_main (hout : ∀ c t, OutAt m (· = out c t) c t) :
    θ_run defs (onTc (τ := τ) (main (F := F))) (s₀ m ρ)
      (fun r => Pipeline.FramePost cfgs (dats m out) 0 (V m) r ∧ r.2.sem = fun _ => 0) :=
  Pipeline.θ_run_frame (Q' := _) cfgs (dats m out) (0 : Fin 1) launch0 defs₀ Variants.none m ρ main
    (hbody := fun c => (body_obligation m out c (hout c)).loose) (hshare := fun c => (dats m out 0 c).share_full fun _ => rfl)
    (howed := fun _ _ => rfl) (V := V m) (hmain := Gen.hmain m Variants.none) (hA := A_eq m out) (hΦ := fun _ _ => rfl)

/-- THE FRAME: every weakly fair execution of @main terminates with the five arguments as launched and every counter at zero. -/
theorem frame :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun _ h => ⟨fun c =>
     ⟨((h.1 c).2 main_arg0 (Pipeline.mem_restRefs_of main_arg0 (by decide) (by decide))).trans (V_main_arg0 m c),
      ((Pipeline.RDat.FramePost.arr_in h.1 c 2 rfl)).trans (V_main_arg1 m c),
      ((Pipeline.RDat.FramePost.arr_in h.1 c 3 rfl)).trans (V_main_arg2 m c),
      ((Pipeline.RDat.FramePost.arr_in h.1 c 4 rfl)).trans (V_main_arg3 m c),
      ((h.1 c).2 main_arg4 (Pipeline.mem_restRefs_of main_arg4 (by decide) (by decide))).trans (V_main_arg4 m c)⟩, h.2⟩)
    (run_forget m ρ fun _ t => Pipeline.Dat.unnamed (cfg := cfg0) 5 t)

end Cert.KernelIdeal.Hand

end
-- ==== Proof.KernelIdealTrip.lean ====
/- One trip of the kernel's loop, restated: twenty equal steps accumulated from zero.

   The printed body spells the twenty steps out one after another.  Here one step is defined once (`step`), at the step number
   `n = 4 t + q` (pair of column tiles `t`, nibble `q`), and `trip_out` says that what a trip stores is twenty of them. -/
module

public import proofs.«01_k».proof.Proof.KernelIdealBody

@[expose] public section

set_option maxRecDepth 65536

noncomputable section

namespace Cert.KernelIdeal.Hand

open Cert.KernelIdeal Cert.KernelIdeal.Gen
open Idealize.ShloMosaic Idealize.ShloMosaic.TcCoe Idealize.ShloMosaic.Tactic

variable {F : FTy → Type} [FloatOps F]

/-- The group indices of one lane tile, broadcast down `S128x128` rows, a negative one moved up by the lane count. -/
def idxWords (ix : Vec F S1x128 .i32) : IVec S128x128 32 :=
  have b : IVec S128x128 32 := broadcastTo S128x128
    (shapeCast S1x128 (shapeCast S1x128 ix shapeCasts_S1x128_S1x128 : IVec S1x128 32) shapeCasts_S1x128_S1x128 : IVec S1x128 32) broadcasts_S1x128_S128x128
  shapeCast S128x128 (shapeCast S128x128x1 (select (cmpi .slt b (broadcast S128x128 0#32)) (addi b (broadcast S128x128 128#32)) b : IVec S128x128 32)
    shapeCasts_S128x128_S128x128x1 : IVec S128x128x1 32) shapeCasts_S128x128x1_S128x128

/-- The same down `S256x128` rows. -/
def idxFloats (ix : Vec F S1x128 .i32) : IVec S256x128 32 :=
  have b : IVec S256x128 32 := broadcastTo S256x128
    (shapeCast S1x128 (shapeCast S1x128 ix shapeCasts_S1x128_S1x128 : IVec S1x128 32) shapeCasts_S1x128_S1x128 : IVec S1x128 32) broadcasts_S1x128_S256x128
  shapeCast S256x128 (shapeCast S256x128x1 (select (cmpi .slt b (broadcast S256x128 0#32)) (addi b (broadcast S256x128 128#32)) b : IVec S256x128 32)
    shapeCasts_S256x128_S256x128x1 : IVec S256x128x1 32) shapeCasts_S256x128x1_S256x128

/-- One weight tile: the nibble at bit `sh` of both halves of every word, minus the group's zero, times the group's scale. -/
def wHalf (sh : BitVec 32) (st : FVec F S256x128 .f32) (zt w : Vec F S128x128 .i32) (ix : Vec F S1x128 .i32) : FVec F S256x128 .bf16 :=
  mulf (subf
      (bitcastToFloat .bf16 (bitcast S256x128 16 (ori (andi (shrsi w (broadcast S128x128 sh)) (broadcast S128x128 983055#32) : IVec S128x128 32)
        (broadcast S128x128 1124090624#32) : IVec S128x128 32) bitcasts_S128x128_w32_S256x128_w16))
      (bitcastToFloat .bf16 (bitcast S256x128 16 (dynamicGather 1 zt (idxWords ix) : IVec S128x128 32) bitcasts_S128x128_w32_S256x128_w16)))
    (truncf .bf16 (dynamicGather 1 st (idxFloats ix)) bitsLt_bf16_f32)

/-- One step: the product of 256 columns of the activations with two weight tiles side by side, added to the sum so far. -/
def step (acc : FVec F S64x256 .f32) (h0 h1 : FVec F S256x128 .bf16) (x : Vec F S64x256 .bf16) : FVec F S64x256 .f32 :=
  addf acc (matmul dot_S64x256_S256x256_S64x256_1_1_0_0_n_n none (shapeCast S64x256 x shapeCasts_S64x256_S64x256)
    (concatenate S256x256 1 [⟨S256x128, h0⟩, ⟨S256x128, h1⟩] concatenates_S256x128_S256x128_S256x256_d1 : FVec F S256x256 .bf16)
    (constant S64x256 .f32 0x00000000#32))

section Trip
variable (a1 : Memref sig .tc .vmem S64x5120 .bf16) (a2 : Memref sig .tc .vmem S40x128 .i32)
    (a3 : Memref sig .tc .vmem S640x1024 .i32) (a7 : Memref sig .tc .vmem S128x1280 .i32) (a8 : Memref sig .tc .vmem S512x2x128 .bf16)
    (a9 : Memref sig .tc .vmem S512x128 .i32)
    (f1 : BufTy.Contents (Elt F) a1.view.ty) (f2 : BufTy.Contents (Elt F) a2.view.ty) (f3 : BufTy.Contents (Elt F) a3.view.ty)
    (f8 : BufTy.Contents (Elt F) a8.view.ty) (f9 : BufTy.Contents (Elt F) a9.view.ty) (k : Fin k0_t1_loop.trips)

/-- Column tile `ct` of the transposed weight words the trip's ten stores leave. -/
def wTile (ct : ℕ) (h : ct < 10) : Vec F S128x128 .i32 :=
  a7.view.readCov (trip_k0_t1.sl.HW_arg7_10 a3 f3 k)
    (Rect.unit (s := S128x1280) ![0, ct * 128] S128x128.size (fun a => by fin_cases a <;> simp [S128x1280, S128x128] <;> omega)).toLoadRect

/-- Row `r` of the group indices. -/
def iRow (r : ℕ) (h : r < 40) : Vec F S1x128 .i32 :=
  View.readAt (Elt F) a2.view (Rect.unit (s := S40x128) ![r, 0] S1x128.size (fun a => by fin_cases a <;> simp [S40x128, S1x128] <;> omega)).toLoadRect f2

/-- 256 columns of the activations from column `o`. -/
def xCols (o : ℕ) (h : o + 256 ≤ 5120) : Vec F S64x256 .bf16 :=
  View.readAt (Elt F) a1.view (Rect.unit (s := S64x5120) ![0, o] S64x256.size (fun a => by fin_cases a <;> simp [S64x5120, S64x256] <;> omega)).toLoadRect f1

/-- The trip's weight tile for nibble `q` of column tile `ct`. -/
def wAt (q ct : ℕ) (hq : q < 4) (hc : ct < 10) : FVec F S256x128 .bf16 :=
  wHalf (BitVec.ofNat 32 (4 * q)) (trip_k0_t1.sl.r a8 f8 k) (trip_k0_t1.sl.r_1 a9 f9 k) (wTile a3 a7 f3 k ct hc) (iRow a2 f2 (q * 10 + ct) (by omega))

/-- The sum after `n` steps: step `n = 4 t + q` takes nibble `q` of column tiles `2 t` and `2 t + 1`. -/
def accAt : (n : ℕ) → n ≤ 20 → FVec F S64x256 .f32
  | 0, _ => k0_pay15
  | n + 1, h => step (accAt n (by omega))
      (wAt a2 a3 a7 a8 a9 f2 f3 f8 f9 k (n % 4) (2 * (n / 4)) (by omega) (by omega))
      (wAt a2 a3 a7 a8 a9 f2 f3 f8 f9 k (n % 4) (2 * (n / 4) + 1) (by omega) (by omega))
      (xCols a1 f1 ((n % 4) * 1280 + (n / 4) * 256) (by omega))

/-- What a trip of the printed loop stores is `accAt` after its twenty steps, rounded. -/
theorem trip_r :
    trip_k0_t1.sl.r_112 a1 a2 a3 a7 a8 a9 f1 f2 f3 f8 f9 k = truncf .bf16 (accAt a1 a2 a3 a7 a8 a9 f1 f2 f3 f8 f9 k 20 le_rfl) bitsLt_bf16_f32 := rfl

end Trip

end Cert.KernelIdeal.Hand

end
-- ==== Proof.Bits.lean ====
/- Facts about packed nibbles, independent of the kernel: reinterpreting words as rows of halves or bytes and back, the nibble a
   masked shift leaves, and the number the bf16 pattern `0x4300 | n` denotes. -/
module

public import Idealize.ShloMosaic.Lib.BitcastPair
public import Idealize.ShloMosaic.Lib.ValueIdxCore
public import Idealize.ShloMosaic.PureOps.Ideal
public import Mathlib.Tactic.IntervalCases
public import Mathlib.Tactic.NormNum

@[expose] public section

noncomputable section

namespace Cert.Nibbles

open Idealize.ShloMosaic Idealize.ShloMosaic.ValueIdx

/-- Nibble `i` of a word. -/
def nib (X : BitVec 32) (i : ℕ) : BitVec 4 := X.extractLsb' (4 * i) 4

/-- A nibble as an extended real. -/
def val (n : BitVec 4) : EReal := ((n.toNat : ℝ) : EReal)

/-! ## Reinterpreted rows -/

/-- A column of words read as halves: row `p` is half `p % 2` of word `p / 2`. -/
theorem bitcast_32_16_at {R Q n : ℕ} (x : (⟨2, ![R, n]⟩ : Shape).Idx → BitVec 32)
    (h : (⟨2, ![R, n]⟩ : Shape).Bitcasts 32 ⟨2, ![Q, n]⟩ 16) (p : Fin Q) (l : Fin n) (q : Fin R) (hq : q.val = p.val / 2) :
    bitcast ⟨2, ![Q, n]⟩ 16 x h (ix2 p l) = (x (ix2 q l)).extractLsb' (16 * (p.val % 2)) 16 := by
  rw [bitcast_32_16 x h]
  congr 2
  funext c
  match c with
  | ⟨0, _⟩ => exact Fin.ext ((h.srcIdx_row _ _ _ ⟨0, Nat.zero_lt_two⟩ rfl).trans hq.symm)
  | ⟨1, _⟩ => exact Fin.ext (h.srcIdx_other _ _ _ ⟨1, Nat.one_lt_two⟩ (by show ¬ 1 + 2 = 2; omega))

/-- A column of halves read as words: the odd row above the even one. -/
theorem bitcast_16_32_at {R Q n : ℕ} (x : (⟨2, ![R, n]⟩ : Shape).Idx → BitVec 16)
    (h : (⟨2, ![R, n]⟩ : Shape).Bitcasts 16 ⟨2, ![Q, n]⟩ 32) (p : Fin Q) (l : Fin n) (q0 q1 : Fin R)
    (h0 : q0.val = 2 * p.val) (h1 : q1.val = 2 * p.val + 1) :
    bitcast ⟨2, ![Q, n]⟩ 32 x h (ix2 p l) = x (ix2 q1 l) ++ x (ix2 q0 l) := by
  rw [bitcast_16_32 x h]
  congr 2
  · funext c
    match c with
    | ⟨0, _⟩ => exact Fin.ext ((h.srcIdx_row _ _ _ ⟨0, Nat.zero_lt_two⟩ rfl).trans h1.symm)
    | ⟨1, _⟩ => exact Fin.ext (h.srcIdx_other _ _ _ ⟨1, Nat.one_lt_two⟩ (by show ¬ 1 + 2 = 2; omega))
  · funext c
    match c with
    | ⟨0, _⟩ => exact Fin.ext ((h.srcIdx_row _ _ _ ⟨0, Nat.zero_lt_two⟩ rfl).trans h0.symm)
    | ⟨1, _⟩ => exact Fin.ext (h.srcIdx_other _ _ _ ⟨1, Nat.one_lt_two⟩ (by show ¬ 1 + 2 = 2; omega))

/-- Half `e` of a word given by its two halves. -/
theorem half_append (A : ℕ → BitVec 16) (e : ℕ) (he : e < 2) : (A 1 ++ A 0).extractLsb' (16 * e) 16 = A e := by
  apply BitVec.eq_of_getLsbD_eq
  intro i hi
  rw [BitVec.getLsbD_extractLsb', BitVec.getLsbD_append]
  interval_cases e
  · simp [hi]
  · simp [hi]

/-- A column of words read as bytes: row `p` is byte `p % 4` of word `p / 4`. -/
theorem bitcast_32_8_at {R Q n : ℕ} (x : (⟨2, ![R, n]⟩ : Shape).Idx → BitVec 32)
    (h : (⟨2, ![R, n]⟩ : Shape).Bitcasts 32 ⟨2, ![Q, n]⟩ 8) (p : Fin Q) (l : Fin n) (q : Fin R) (hq : q.val = p.val / 4) :
    bitcast ⟨2, ![Q, n]⟩ 8 x h (ix2 p l) = (x (ix2 q l)).extractLsb' (8 * (p.val % 4)) 8 := by
  apply BitVec.eq_of_getLsbD_eq
  intro i hi
  rw [BitVec.getLsbD_extractLsb', bitcast_getLsbD x h _ _ hi (by decide)]
  simp only [hi, decide_true, Bool.true_and]
  have em : (Shape.row (⟨2, ![Q, n]⟩ : Shape) (ix2 p l) * 8 + i) % 32 = 8 * (p.val % 4) + i := by
    show (p.val * 8 + i) % 32 = _
    omega
  rw [em]
  congr 2
  funext c
  match c with
  | ⟨0, _⟩ =>
    refine Fin.ext ((h.srcIdx_row _ _ _ ⟨0, Nat.zero_lt_two⟩ rfl).trans ?_)
    show (p.val * 8 + i) / 32 = q.val
    omega
  | ⟨1, _⟩ => exact Fin.ext (h.srcIdx_other _ _ _ ⟨1, Nat.one_lt_two⟩ (by show ¬ 1 + 2 = 2; omega))

/-! ## Nibbles -/

/-- Nibble `q` of half `ρ` of a word is the word's nibble `4 ρ + q`. -/
theorem nib_half (X : BitVec 32) (ρ q : ℕ) (hq : q < 4) :
    (X.extractLsb' (16 * ρ) 16).extractLsb' (4 * q) 4 = nib X (4 * ρ + q) := by
  apply BitVec.eq_of_getLsbD_eq
  intro i hi
  simp only [nib, BitVec.getLsbD_extractLsb', hi, decide_true, Bool.true_and]
  rw [decide_eq_true (show 4 * q + i < 16 by omega), Bool.true_and]
  congr 1; omega

/-- Nibble `e` of byte `p` of a word is the word's nibble `2 p + e`. -/
theorem nib_byte (X : BitVec 32) (p e : ℕ) (he : e < 2) :
    (X.extractLsb' (8 * p) 8).extractLsb' (4 * e) 4 = nib X (2 * p + e) := by
  apply BitVec.eq_of_getLsbD_eq
  intro i hi
  simp only [nib, BitVec.getLsbD_extractLsb', hi, decide_true, Bool.true_and]
  rw [decide_eq_true (show 4 * e + i < 8 by omega), Bool.true_and]
  congr 1; omega

/-- Half `e` of a word shifted right `q` nibbles, its two low nibbles of halves kept and `0x4300` set in each. -/
theorem code_half (w : BitVec 32) (e q : ℕ) (he : e < 2) (hq : q < 4) :
    ((w.sshiftRight (4 * q) &&& 983055#32) ||| 1124090624#32).extractLsb' (16 * e) 16
      = 0x4300#16 ||| ((w.extractLsb' (16 * e) 16).extractLsb' (4 * q) 4).setWidth 16 := by
  apply BitVec.eq_of_getLsbD_eq
  intro i hi
  simp only [BitVec.getLsbD_extractLsb', BitVec.getLsbD_or, BitVec.getLsbD_and, BitVec.getLsbD_sshiftRight, BitVec.getLsbD_setWidth, hi]
  interval_cases e <;> interval_cases q <;> interval_cases i <;> simp

/-- Half `e` of the word that holds a byte's two nibbles in its halves, with `0x4300` set in each. -/
theorem zero_half (b : BitVec 8) (e : ℕ) (he : e < 2) :
    (((b.signExtend 32 &&& 15#32) ||| (((b.signExtend 32).sshiftRight 4 &&& 15#32) <<< 16)) ||| 1124090624#32).extractLsb' (16 * e) 16
      = 0x4300#16 ||| (b.extractLsb' (4 * e) 4).setWidth 16 := by
  apply BitVec.eq_of_getLsbD_eq
  intro i hi
  simp only [BitVec.getLsbD_extractLsb', BitVec.getLsbD_or, BitVec.getLsbD_and, BitVec.getLsbD_sshiftRight, BitVec.getLsbD_setWidth,
    BitVec.getLsbD_shiftLeft, BitVec.getLsbD_signExtend, hi]
  interval_cases e <;> interval_cases i <;> simp

/-- A word shifted right `i` nibbles and masked to the lowest is that nibble, widened. -/
theorem shift_mask (X : BitVec 32) (i : ℕ) (hi : i < 8) :
    X.sshiftRight (4 * i) &&& 15#32 = (nib X i).setWidth 32 := by
  apply BitVec.eq_of_getLsbD_eq
  intro j hj
  simp only [nib, BitVec.getLsbD_extractLsb', BitVec.getLsbD_and, BitVec.getLsbD_sshiftRight, BitVec.getLsbD_setWidth, hj]
  by_cases h : j < 4
  · have : 4 * i + j < 32 := by omega
    have h32 : ¬ 32 ≤ 4 * i := by omega
    interval_cases j <;> simp_all
  · have : (15#32 : BitVec 32).getLsbD j = false := by interval_cases j <;> first | omega | rfl
    simp [this, h]

/-- A widened nibble read as a signed word is the nibble. -/
theorem toInt_setWidth (n : BitVec 4) : (((n.setWidth 32).toInt : ℝ) : EReal) = val n := by
  have h : (n.setWidth 32).toInt = n.toNat := by
    rw [BitVec.toInt_eq_toNat_of_lt (by rw [BitVec.toNat_setWidth]; omega), BitVec.toNat_setWidth]; norm_cast; omega
  rw [h, val]; norm_cast

/-- The bf16 pattern `0x4300 | n` denotes `128 + n`. -/
theorem ofBits_4300 (n : BitVec 4) : Ideal.ofBits .bf16 (0x4300#16 ||| n.setWidth 16) = ((128 + n.toNat : ℝ) : EReal) := by
  obtain ⟨⟨k, hk⟩⟩ := n
  have hk' : k < 16 := hk
  interval_cases k <;> simp [Ideal.ofBits, Ideal.ieee, -EReal.coe_mul, -EReal.coe_add] <;> norm_num

/-- The two offsets of 128 cancel. -/
theorem sub_offset (c z : BitVec 4) :
    ((128 + c.toNat : ℝ) : EReal) - ((128 + z.toNat : ℝ) : EReal) = val c - val z := by
  rw [val, val, ← EReal.coe_sub, ← EReal.coe_sub]; congr 1; ring

end Cert.Nibbles

end
-- ==== Proof.Pairs.lean ====
/- Rows kept in pairs, independent of the kernel: two vectors interleaved by rows, the rows of one parity, and a unit axis between rows and
   lanes added or dropped, each read at an index. -/
module

public import Idealize.ShloMosaic.PureOps
public import Idealize.ShloMosaic.Lib.ValueLayout

@[expose] public section

noncomputable section

namespace Cert.Pairs

open Idealize.ShloMosaic Idealize.ShloMosaic.ValueIdx

variable {α : Type}

/-- Row `p` of two interleaved arrays is row `p / 2` of the first or the second, by `p`'s parity. -/
theorem interleave_at {Q R n : ℕ} (lo hi : (⟨2, ![Q, n]⟩ : Shape).Idx → α) (h : (⟨2, ![R, n]⟩ : Shape).Bitcasts 16 ⟨2, ![Q, n]⟩ 32)
    (p : Fin R) (l : Fin n) (q : Fin Q) (hq : q.val = p.val / 2) :
    interleaveRows ⟨2, ![R, n]⟩ lo hi h (ix2 p l) = if p.val % 2 = 0 then lo (ix2 q l) else hi (ix2 q l) := by
  unfold interleaveRows
  dsimp only
  show (if p.val % 2 = 0 then lo _ else hi _) = _
  have e : ∀ f : (⟨2, ![Q, n]⟩ : Shape).Idx → α, ∀ i, (i 0).val = p.val / 2 → (i 1).val = l.val → f i = f (ix2 q l) := fun f i h0 h1 =>
    congrArg f (funext fun a => match a with
      | ⟨0, _⟩ => Fin.ext (h0.trans hq.symm)
      | ⟨1, _⟩ => Fin.ext h1)
  rw [e lo _ rfl rfl, e hi _ rfl rfl]

/-- The same for arrays of pairs: member `e` of pair `r` is row `r` of the first or the second. -/
theorem interleave_pair_at {R n : ℕ} (lo hi : (⟨3, ![R, 1, n]⟩ : Shape).Idx → α)
    (h : (⟨3, ![R, 2, n]⟩ : Shape).Bitcasts 16 ⟨3, ![R, 1, n]⟩ 32) (r : Fin R) (e : Fin 2) (l : Fin n) :
    interleaveRows ⟨3, ![R, 2, n]⟩ lo hi h (ix3 r e l) = if e.val % 2 = 0 then lo (ix3 r (0 : Fin 1) l) else hi (ix3 r (0 : Fin 1) l) := by
  unfold interleaveRows
  dsimp only
  show (if e.val % 2 = 0 then lo _ else hi _) = _
  have k : ∀ f : (⟨3, ![R, 1, n]⟩ : Shape).Idx → α, ∀ i, (i 0).val = r.val → (i 2).val = l.val → f i = f (ix3 r (0 : Fin 1) l) :=
    fun f i h0 h2 => congrArg f (funext fun a => match a with
      | ⟨0, _⟩ => Fin.ext h0
      | ⟨1, _⟩ => Subsingleton.elim (α := Fin 1) _ _
      | ⟨2, _⟩ => Fin.ext h2)
  rw [k lo _ rfl rfl, k hi _ rfl rfl]

/-- Row `q` of the rows of parity `p` is row `2 q + p`. -/
theorem rows_at {Q R n : ℕ} (p : Fin 2) (x : (⟨2, ![R, n]⟩ : Shape).Idx → α) (h : (⟨2, ![R, n]⟩ : Shape).Bitcasts 16 ⟨2, ![Q, n]⟩ 32)
    (q : Fin Q) (l : Fin n) (r : Fin R) (hr : r.val = 2 * q.val + p.val) :
    rowsOfParity p ⟨2, ![Q, n]⟩ x h (ix2 q l) = x (ix2 r l) := by
  unfold rowsOfParity
  refine congrArg x (funext fun a => match a with
    | ⟨0, _⟩ => Fin.ext hr.symm
    | ⟨1, _⟩ => Fin.ext rfl)

/-- The rows of parity `p` of an array of pairs are each pair's member `p`. -/
theorem rows_pair_at {R n : ℕ} (p : Fin 2) (x : (⟨3, ![R, 2, n]⟩ : Shape).Idx → α)
    (h : (⟨3, ![R, 2, n]⟩ : Shape).Bitcasts 16 ⟨3, ![R, 1, n]⟩ 32) (r : Fin R) (l : Fin n) :
    rowsOfParity p ⟨3, ![R, 1, n]⟩ x h (ix3 r (0 : Fin 1) l) = x (ix3 r p l) := by
  unfold rowsOfParity
  refine congrArg x (funext fun a => match a with
    | ⟨0, _⟩ => Fin.ext rfl
    | ⟨1, _⟩ => Fin.ext (by show 2 * 0 + p.val = p.val; omega)
    | ⟨2, _⟩ => Fin.ext rfl)

/-- A unit axis added between rows and lanes. -/
theorem cast_add_at {a b : ℕ} (x : (⟨2, ![a, b]⟩ : Shape).Idx → α) (h : (⟨2, ![a, b]⟩ : Shape).ShapeCasts ⟨3, ![a, 1, b]⟩)
    (i : Fin a) (j : Fin b) : shapeCast ⟨3, ![a, 1, b]⟩ x h (ix3 i (0 : Fin 1) j) = x (ix2 i j) :=
  shapeCast_apply x h _ _ (by
    rw [Shape.rowMajor_val_three, Shape.rowMajor_val_two]
    show i.val * b + j.val = (i.val * 1 + 0) * b + j.val
    rw [Nat.mul_one, Nat.add_zero])

/-- A unit axis between rows and lanes dropped. -/
theorem cast_drop_at {a b : ℕ} (x : (⟨3, ![a, 1, b]⟩ : Shape).Idx → α) (h : (⟨3, ![a, 1, b]⟩ : Shape).ShapeCasts ⟨2, ![a, b]⟩)
    (i : Fin a) (j : Fin b) : shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

end Cert.Pairs

end
-- ==== Proof.KernelIdealTile.lean ====
/- What the trip's loads hold, element by element, in terms of the five staged inputs: the transposed weight words (`wTile`), the
   rows of group indices, the activations' columns, and the two scratch tables in the lanes the body fills. -/
module

public import proofs.«01_k».proof.Proof.KernelIdealTrip
public import proofs.«01_k».proof.Proof.Bits
public import proofs.«01_k».proof.Proof.Pairs
public import Idealize.ShloMosaic.Lib.WritesUnit
public import Idealize.ShloMosaic.Lib.ValueLayout

@[expose] public section

set_option maxRecDepth 65536

noncomputable section

namespace Cert.KernelIdeal.Hand

open Cert.KernelIdeal Cert.KernelIdeal.Gen Cert.Nibbles Cert.Pairs
open Idealize.ShloMosaic Idealize.ShloMosaic.TcCoe Idealize.ShloMosaic.Tactic Idealize.ShloMosaic.ValueIdx

variable {F : FTy → Type} [FloatOps F]

/-- A load of a unit-stride rectangle, at an index: the buffer at the index moved by the rectangle's offset. -/
theorem readAt_unit_at {sp : Space} {s : Shape} {e : EltTy} {κ : Kind} (v : View sig κ sp s e) (f : v.ty.Contents (Elt F))
    {off off' size : Fin s.rank → ℕ} (inb : ∀ a, off a + size a ≤ s.size a) (x : (Rect.unit off size inb).shape.Idx) (y : s.Idx)
    (heq : off = off') (hx : ∀ a, (y a).val = off' a + (x a).val) :
    v.readAt (Elt F) (Rect.unit off size inb).toLoadRect f x = v.read (Elt F) f y := by
  subst heq
  rw [View.readAt_apply]
  refine congrArg _ (funext fun a => Fin.ext ?_)
  rw [LoadRect.idx_apply, hx a]
  exact congrArg _ (Nat.one_mul _)

/-! ## The weight words -/

/-- One block of weight words turned on its side: the halves of each column become consecutive rows' words. -/
def wWords (v : Vec F S128x128 .i32) : IVec S64x256 32 :=
  shapeCast S64x256 (bitcast S64x256 32 (transpose S128x256 [1, 0] (bitcast S256x128 16 v bitcasts_S128x128_w32_S256x128_w16 : IVec S256x128 16)
    transposes_S256x128_p1_0_S128x256 : IVec S128x256 16) bitcasts_S128x256_w16_S64x256_w32 : IVec S64x256 32) shapeCasts_S64x256_S64x256

/-- A transposed tile of packed words, read at a word. -/
theorem wWords_at (v : Vec F S128x128 .i32) (p : Fin 64) (l : Fin 256) :
    wWords v (ix2 p l) = BitVec.extractLsb' (16 * (l.val % 2)) 16 (v (ix2 ⟨l.val / 2, by omega⟩ ⟨2 * p.val + 1, by omega⟩) : BitVec 32)
      ++ BitVec.extractLsb' (16 * (l.val % 2)) 16 (v (ix2 ⟨l.val / 2, by omega⟩ ⟨2 * p.val, by omega⟩) : BitVec 32) := by
  unfold wWords
  rw [shapeCast_self]
  refine (bitcast_16_32_at _ _ p l ⟨2 * p.val, by omega⟩ ⟨2 * p.val + 1, by omega⟩ rfl rfl).trans ?_
  rw [transpose_ix2_apply, transpose_ix2_apply]
  refine congrArg₂ _ ?_ ?_
  · exact bitcast_32_16_at _ _ l _ ⟨l.val / 2, by omega⟩ rfl
  · exact bitcast_32_16_at _ _ l _ ⟨l.val / 2, by omega⟩ rfl

/-- Where each of a trip's loads and stores starts. -/
theorem off_eq : ∀ k : Fin k0_t1_loop.trips,
    (k0_off1 k 0#32 = ![0, 256 * k.val] ∧ k0_off2 k 0#32 = ![128, 256 * k.val] ∧ k0_off3 k 0#32 = ![256, 256 * k.val]
      ∧ k0_off4 k 0#32 = ![384, 256 * k.val] ∧ k0_off5 k 0#32 = ![512, 256 * k.val])
    ∧ (k0_off1 k 128#32 = ![0, 256 * k.val + 128] ∧ k0_off2 k 128#32 = ![128, 256 * k.val + 128] ∧ k0_off3 k 128#32 = ![256, 256 * k.val + 128]
      ∧ k0_off4 k 128#32 = ![384, 256 * k.val + 128] ∧ k0_off5 k 128#32 = ![512, 256 * k.val + 128])
    ∧ k0_off6 k = ![128 * k.val, 0, 0] ∧ k0_off7 k = ![128 * k.val, 0] := by decide +kernel

/-- A trip is one of four. -/
theorem trip_lt (k : Fin k0_t1_loop.trips) : k.val < 4 := lt_of_lt_of_eq k.isLt (by decide +kernel)

/-- The half-word in row `R` of the transposed block and packed column `m` of the trip. -/
def half (x3 : Vec F S640x1024 .i32) (k : Fin k0_t1_loop.trips) (R : Fin 1280) (p : Fin 128) (e : ℕ) : BitVec 16 :=
  BitVec.extractLsb' (16 * (R.val % 2)) 16 (x3 (ix2 ⟨R.val / 2, by omega⟩
    ⟨(256 * k.val + 2 * p.val + e) % 1024, Nat.mod_lt _ (by decide)⟩) : BitVec 32)

/-- The word at row `p`, column `R` of the transposed weights. -/
def wWord (x3 : Vec F S640x1024 .i32) (k : Fin k0_t1_loop.trips) : S128x1280.Idx → BitVec 32 :=
  fun y => half x3 k (y 1) (y 0) 1 ++ half x3 k (y 1) (y 0) 0

section
variable (a3 : Memref sig .tc .vmem S640x1024 .i32) (a7 : Memref sig .tc .vmem S128x1280 .i32)
    (f3 : BufTy.Contents (Elt F) a3.view.ty) (k : Fin k0_t1_loop.trips)

/-- One of the ten stores: the block in rows `128 ib ..` and columns `256 k + 128 nb ..`, turned, goes to rows `64 nb ..` and columns `256 ib ..`. -/
theorem piece_at (nb ib : ℕ) (hnb : nb < 2) (hib : ib < 5) {off : Fin 2 → ℕ} (inb : ∀ a, off a + S128x128.size a ≤ S640x1024.size a)
    (heq : off = ![ib * 128, 256 * k.val + nb * 128]) {o : Fin 2 → ℕ} (ho : o = ![nb * 64, ib * 256])
    (inb' : ∀ a, o a + S64x256.size a ≤ S128x1280.size a) (x : S64x256.Idx) :
    wWords (View.readAt (Elt F) a3.view (Rect.unit (s := S640x1024) off S128x128.size inb).toLoadRect f3) x
      = wWord (a3.view.read (Elt F) f3) k ((Rect.unit (s := S128x1280) o S64x256.size inb').emb x) := by
  have hk := trip_lt k
  obtain ⟨p, l, rfl⟩ : ∃ (p : Fin 64) (l : Fin 256), x = ix2 p l := ⟨x 0, x 1, eq_ix2 x⟩
  have e0 : ((Rect.unit (s := S128x1280) o S64x256.size inb').emb (ix2 p l) 0).val = nb * 64 + p.val := by
    subst ho; show nb * 64 + 1 * p.val = _; omega
  have e1 : ((Rect.unit (s := S128x1280) o S64x256.size inb').emb (ix2 p l) 1).val = ib * 256 + l.val := by
    subst ho; show ib * 256 + 1 * l.val = _; omega
  have key : ∀ e : ℕ, (he : e < 2) →
      BitVec.extractLsb' (16 * (l.val % 2)) 16 (View.readAt (Elt F) a3.view (Rect.unit (s := S640x1024) off S128x128.size inb).toLoadRect f3
        (ix2 (n0 := 128) (n1 := 128) ⟨l.val / 2, by omega⟩ ⟨2 * p.val + e, by omega⟩) : BitVec 32)
      = half (a3.view.read (Elt F) f3) k ((Rect.unit (s := S128x1280) o S64x256.size inb').emb (ix2 p l) 1)
          ((Rect.unit (s := S128x1280) o S64x256.size inb').emb (ix2 p l) 0) e := by
    intro e he
    unfold half
    rw [show (16 * (((Rect.unit (s := S128x1280) o S64x256.size inb').emb (ix2 p l) 1).val % 2)) = 16 * (l.val % 2) by rw [e1]; omega]
    refine congrArg _ (readAt_unit_at a3.view f3 inb _ _ heq fun a => ?_)
    match a with
    | ⟨0, _⟩ =>
      show ((Rect.unit (s := S128x1280) o S64x256.size inb').emb (ix2 p l) 1).val / 2 = ib * 128 + l.val / 2
      rw [e1]; omega
    | ⟨1, _⟩ =>
      show (256 * k.val + 2 * ((Rect.unit (s := S128x1280) o S64x256.size inb').emb (ix2 p l) 0).val + e) % 1024 = 256 * k.val + nb * 128 + (2 * p.val + e)
      rw [e0]; omega
  rw [wWords_at]
  exact congrArg₂ _ (key 1 (by decide)) (key 0 (by decide))

/-- The ten stores' rectangles fill the buffer. -/
theorem wTile_covered (y : S128x1280.Idx) : ∃ p ∈ trip_k0_t1.sl.HW_arg7_10 a3 f3 k, y ∈ p.1.set := by
  have hp : (y 0).val < 128 := (y 0).isLt
  have hN : (y 1).val < 1280 := (y 1).isLt
  unfold trip_k0_t1.sl.HW_arg7_10
  simp only [List.exists_mem_cons_iff, Rect.mem_set_unit, Fin.forall_fin_two]
  have key : ∀ nb ib : ℕ, nb * 64 ≤ (y 0).val → (y 0).val < nb * 64 + 64 → ib * 256 ≤ (y 1).val → (y 1).val < ib * 256 + 256 →
      ((nb * 64 ≤ (y 0).val ∧ (y 0).val < nb * 64 + S64x256.size 0)
        ∧ (ib * 256 ≤ (y 1).val ∧ (y 1).val < ib * 256 + S64x256.size 1)) :=
    fun nb ib a b c d => ⟨⟨a, b⟩, c, d⟩
  have hi : (y 1).val < 256 ∨ 256 ≤ (y 1).val ∧ (y 1).val < 512 ∨ 512 ≤ (y 1).val ∧ (y 1).val < 768
    ∨ 768 ≤ (y 1).val ∧ (y 1).val < 1024 ∨ 1024 ≤ (y 1).val := by omega
  rcases Nat.lt_or_ge (y 0).val 64 with hp0 | hp0
  · refine .inr (.inr (.inr (.inr (.inr ?_))))
    rcases hi with hi | hi | hi | hi | hi
    · exact .inr (.inr (.inr (.inr (.inl (key 0 0 (by omega) (by omega) (by omega) (by omega))))))
    · exact .inr (.inr (.inr (.inl (key 0 1 (by omega) (by omega) (by omega) (by omega)))))
    · exact .inr (.inr (.inl (key 0 2 (by omega) (by omega) (by omega) (by omega))))
    · exact .inr (.inl (key 0 3 (by omega) (by omega) (by omega) (by omega)))
    · exact .inl (key 0 4 (by omega) (by omega) (by omega) (by omega))
  · rcases hi with hi | hi | hi | hi | hi
    · exact .inr (.inr (.inr (.inr (.inl (key 1 0 (by omega) (by omega) (by omega) (by omega))))))
    · exact .inr (.inr (.inr (.inl (key 1 1 (by omega) (by omega) (by omega) (by omega)))))
    · exact .inr (.inr (.inl (key 1 2 (by omega) (by omega) (by omega) (by omega))))
    · exact .inr (.inl (key 1 3 (by omega) (by omega) (by omega) (by omega)))
    · exact .inl (key 1 4 (by omega) (by omega) (by omega) (by omega))

/-- The ten stores' words, at an index of a tile. -/
theorem wTile_at (ct : ℕ) (h : ct < 10) (p l : Fin 128) :
    wTile a3 a7 f3 k ct h (ix2 p l) = wWord (a3.view.read (Elt F) f3) k (ix2 p ⟨ct * 128 + l.val, by omega⟩) := by
  unfold wTile View.readCov
  refine (readAt_unit_at a7.view _ _ _ (ix2 p ⟨ct * 128 + l.val, by omega⟩) rfl fun a => ?_).trans ?_
  · match a with
    | ⟨0, _⟩ => exact (Nat.zero_add _).symm
    | ⟨1, _⟩ => rfl
  obtain ⟨⟨o1, o2, o3, o4, o5⟩, ⟨q1, q2, q3, q4, q5⟩, -⟩ := off_eq k
  refine View.read_writes_apply_of_pieces (Val := Elt F) a7.view _ (wWord (a3.view.read (Elt F) f3) k) _ ?_ _ ?_
  · unfold trip_k0_t1.sl.HW_arg7_10
    simp only [List.forall_mem_cons, List.not_mem_nil, false_imp_iff, implies_true, and_true]
    exact ⟨piece_at a3 f3 k 1 4 (by decide) (by decide) _ q5 rfl _, piece_at a3 f3 k 1 3 (by decide) (by decide) _ q4 rfl _,
      piece_at a3 f3 k 1 2 (by decide) (by decide) _ q3 rfl _, piece_at a3 f3 k 1 1 (by decide) (by decide) _ q2 rfl _,
      piece_at a3 f3 k 1 0 (by decide) (by decide) _ q1 rfl _, piece_at a3 f3 k 0 4 (by decide) (by decide) _ o5 rfl _,
      piece_at a3 f3 k 0 3 (by decide) (by decide) _ o4 rfl _, piece_at a3 f3 k 0 2 (by decide) (by decide) _ o3 rfl _,
      piece_at a3 f3 k 0 1 (by decide) (by decide) _ o2 rfl _, piece_at a3 f3 k 0 0 (by decide) (by decide) _ o1 rfl _⟩
  · exact wTile_covered a3 f3 k _

/-- Half `e` of a weight word. -/
theorem wWord_half (x3 : Vec F S640x1024 .i32) (p : Fin 128) (R : Fin 1280) (e : ℕ) (he : e < 2) :
    (wWord x3 k (ix2 p R)).extractLsb' (16 * e) 16 = half x3 k R p e :=
  half_append (half x3 k R p) e he

end

/-! ## The other loads -/

/-- A row of group indices at a lane. -/
theorem iRow_at (a2 : Memref sig .tc .vmem S40x128 .i32) (f2 : BufTy.Contents (Elt F) a2.view.ty) (r : ℕ) (h : r < 40) (l : Fin 128) :
    iRow a2 f2 r h (ix2 (0 : Fin 1) l) = a2.view.read (Elt F) f2 (ix2 ⟨r, h⟩ l) := by
  unfold iRow
  refine readAt_unit_at a2.view f2 _ _ _ rfl fun a => ?_
  match a with
  | ⟨0, _⟩ => rfl
  | ⟨1, _⟩ => exact (Nat.zero_add _).symm

/-- A column of activations. -/
theorem xCols_at (a1 : Memref sig .tc .vmem S64x5120 .bf16) (f1 : BufTy.Contents (Elt F) a1.view.ty) (o : ℕ) (h : o + 256 ≤ 5120)
    (b : Fin 64) (j : Fin 256) :
    xCols a1 f1 o h (ix2 b j) = a1.view.read (Elt F) f1 (ix2 b ⟨o + j.val, by omega⟩) := by
  unfold xCols
  refine readAt_unit_at a1.view f1 _ _ _ rfl fun a => ?_
  match a with
  | ⟨0, _⟩ => exact (Nat.zero_add _).symm
  | ⟨1, _⟩ => rfl

/-- The trip's rows of the scales' scratch, in a lane the body filled. -/
theorem scales_at (a4 : Memref sig .tc .vmem S40x1024 .bf16) (a8 : Memref sig .tc .vmem S512x2x128 .bf16)
    (f4 : BufTy.Contents (Elt F) a4.view.ty) (f8 : BufTy.Contents (Elt F) a8.view.ty) (k : Fin k0_t1_loop.trips) (n : Fin 256) (g : Fin 128)
    (hg : g.val < 40) (hn : 256 * k.val + n.val < 1024) :
    trip_k0_t1.sl.r a8 (scalesIn a4 a8 f4 f8) k (ix2 n g)
      = FloatOps.extf .f32 bitsLt_bf16_f32 (a4.view.read (Elt F) f4 (ix2 ⟨g.val, hg⟩ ⟨256 * k.val + n.val, hn⟩)) := by
  have key : ∀ e : Fin 2, n.val % 2 = e.val →
      View.readAt (Elt F) a8.view (Rect.unit (s := S512x2x128) (k0_off6 k) S128x2x128.size (k0_off6_inb k)).toLoadRect (scalesIn a4 a8 f4 f8)
        (ix3 (⟨n.val / 2, by omega⟩ : Fin 128) e g)
      = a4.view.read (Elt F) f4 (ix2 ⟨g.val, hg⟩ ⟨256 * k.val + n.val, hn⟩) := by
    intro e he
    refine (readAt_unit_at a8.view _ _ _ (ix3 (⟨128 * k.val + n.val / 2, by omega⟩ : Fin 512) e g) (off_eq k).2.2.1 fun a => ?_).trans ?_
    · match a with
      | ⟨0, _⟩ => rfl
      | ⟨1, _⟩ => exact (Nat.zero_add _).symm
      | ⟨2, _⟩ => exact (Nat.zero_add _).symm
    refine (View.read_writes_cons_unit_of_mem a8.view f8 _ _ _ _
      (ix3 (n0 := 512) (n1 := 2) (n2 := 40) ⟨128 * k.val + n.val / 2, by omega⟩ e ⟨g.val, hg⟩) rfl fun a => ?_).trans ?_
    · match a with
      | ⟨0, _⟩ => exact (Nat.zero_add _).symm
      | ⟨1, _⟩ => exact (Nat.zero_add _).symm
      | ⟨2, _⟩ => exact (Nat.zero_add _).symm
    unfold k0_pay1
    dsimp only
    have row : ∀ p : Fin 2, p = e → ∀ hb, rowsOfParity p S512x40 (transpose S1024x40 [1, 0]
        (View.readAt (Elt F) a4.view (Rect.unit ![0, 0] S40x1024.size inb_S40x1024_S40x1024_0_0).toLoadRect f4) transposes_S40x1024_p1_0_S1024x40) hb
          (ix2 (n0 := 512) (n1 := 40) ⟨128 * k.val + n.val / 2, by omega⟩ ⟨g.val, hg⟩)
        = a4.view.read (Elt F) f4 (ix2 ⟨g.val, hg⟩ ⟨256 * k.val + n.val, hn⟩) := by
      rintro p rfl hb
      refine (rows_at p _ hb _ _ (⟨256 * k.val + n.val, hn⟩ : Fin 1024)
        (by show 256 * k.val + n.val = 2 * (128 * k.val + n.val / 2) + p.val; omega)).trans ?_
      refine (transpose_ix2_apply _ _ _ _).trans ?_
      refine readAt_unit_at a4.view f4 _ _ _ rfl fun a => ?_
      match a with
      | ⟨0, _⟩ => exact (Nat.zero_add _).symm
      | ⟨1, _⟩ => exact (Nat.zero_add _).symm
    refine (interleave_pair_at _ _ _ _ e _).trans ?_
    split
    · refine (cast_add_at _ _ _ _).trans (row 0 (Fin.ext ?_) _); show 0 = e.val; omega
    · refine (cast_add_at _ _ _ _).trans (row 1 (Fin.ext ?_) _); show 1 = e.val; omega
  refine congrArg (fun z => FloatOps.extf .f32 bitsLt_bf16_f32 z) ?_
  refine (interleave_at _ _ _ n g ⟨n.val / 2, by omega⟩ rfl).trans ?_
  split
  · exact (cast_drop_at _ _ _ _).trans ((rows_pair_at 0 _ _ _ _).trans (key 0 (by show n.val % 2 = 0; omega)))
  · exact (cast_drop_at _ _ _ _).trans ((rows_pair_at 1 _ _ _ _).trans (key 1 (by show n.val % 2 = 1; omega)))

/-- A half of a word of the zeros' scratch, in a lane the body filled. -/
theorem zeros_at (a5 : Memref sig .tc .vmem S40x128 .i32) (a9 : Memref sig .tc .vmem S512x128 .i32)
    (f5 : BufTy.Contents (Elt F) a5.view.ty) (f9 : BufTy.Contents (Elt F) a9.view.ty) (k : Fin k0_t1_loop.trips) (p : Fin 128) (g : Fin 128)
    (hg : g.val < 40) (e : ℕ) (he : e < 2) (N : Fin 1024) (hN : N.val = 256 * k.val + 2 * p.val + e) :
    BitVec.extractLsb' (16 * e) 16 (trip_k0_t1.sl.r_1 a9 (zerosIn a5 a9 f5 f9) k (ix2 p g) : BitVec 32)
      = 0x4300#16 ||| (nib (a5.view.read (Elt F) f5 (ix2 ⟨g.val, hg⟩ ⟨N.val / 8, by omega⟩)) (N.val % 8)).setWidth 16 := by
  have hk := trip_lt k
  have e1 : trip_k0_t1.sl.r_1 a9 (zerosIn a5 a9 f5 f9) k (ix2 p g)
      = k0_pay2 (View.readAt (Elt F) a5.view (Rect.unit ![0, 0] S40x128.size inb_S40x128_S40x128_0_0).toLoadRect f5)
          (ix2 (n0 := 512) (n1 := 40) ⟨128 * k.val + p.val, by omega⟩ ⟨g.val, hg⟩) := by
    refine (readAt_unit_at a9.view _ _ (ix2 p g) (ix2 ⟨128 * k.val + p.val, by omega⟩ g) (off_eq k).2.2.2 fun a => ?_).trans ?_
    · match a with
      | ⟨0, _⟩ => rfl
      | ⟨1, _⟩ => exact (Nat.zero_add _).symm
    refine View.read_writes_cons_unit_of_mem a9.view f9 _ _ _ _ _ rfl fun a => ?_
    match a with
    | ⟨0, _⟩ => exact (Nat.zero_add _).symm
    | ⟨1, _⟩ => exact (Nat.zero_add _).symm
  rw [e1]
  unfold k0_pay2
  dsimp only
  rw [shapeCast_self]
  refine (zero_half (bitcast S512x40 8 (transpose S128x40 [1, 0]
      (View.readAt (Elt F) a5.view (Rect.unit ![0, 0] S40x128.size inb_S40x128_S40x128_0_0).toLoadRect f5) transposes_S40x128_p1_0_S128x40 : IVec S128x40 32)
      bitcasts_S128x40_w32_S512x40_w8 (ix2 (n0 := 512) (n1 := 40) ⟨128 * k.val + p.val, by omega⟩ ⟨g.val, hg⟩)) e he).trans ?_
  refine congrArg (fun z => 0x4300#16 ||| BitVec.setWidth 16 z) ?_
  rw [show bitcast S512x40 8 (transpose S128x40 [1, 0]
      (View.readAt (Elt F) a5.view (Rect.unit ![0, 0] S40x128.size inb_S40x128_S40x128_0_0).toLoadRect f5) transposes_S40x128_p1_0_S128x40 : IVec S128x40 32)
      bitcasts_S128x40_w32_S512x40_w8 (ix2 (n0 := 512) (n1 := 40) ⟨128 * k.val + p.val, by omega⟩ ⟨g.val, hg⟩)
    = BitVec.extractLsb' (8 * ((128 * k.val + p.val) % 4)) 8 (a5.view.read (Elt F) f5 (ix2 ⟨g.val, hg⟩ ⟨N.val / 8, by omega⟩) : BitVec 32) from ?_]
  · rw [nib_byte _ _ _ he]
    exact congrArg _ (by omega)
  · refine (bitcast_32_8_at _ _ _ _ (⟨N.val / 8, by omega⟩ : Fin 128) (by show N.val / 8 = (128 * k.val + p.val) / 4; omega)).trans ?_
    refine congrArg (BitVec.extractLsb' (8 * ((128 * k.val + p.val) % 4)) 8) ?_
    refine (transpose_ix2_apply _ _ _ _).trans ?_
    refine readAt_unit_at a5.view f5 _ _ _ rfl fun a => ?_
    match a with
    | ⟨0, _⟩ => exact (Nat.zero_add _).symm
    | ⟨1, _⟩ => exact (Nat.zero_add _).symm

end Cert.KernelIdeal.Hand

end
-- ==== Proof.KernelIdealOut.lean ====
/- What the loop leaves in the output's buffer, element by element: column `256 k + n'` holds what trip `k` stored at column `n'`. -/
module

public import proofs.«01_k».proof.Proof.KernelIdealTrip
public import Idealize.ShloMosaic.Lib.WritesUnit
public import Idealize.ShloMosaic.Lib.ValueIdxCore

@[expose] public section

set_option maxRecDepth 65536

noncomputable section

namespace Cert.KernelIdeal.Hand

open Cert.KernelIdeal Cert.KernelIdeal.Gen
open Idealize.ShloMosaic Idealize.ShloMosaic.TcCoe Idealize.ShloMosaic.Tactic Idealize.ShloMosaic.ValueIdx

variable {F : FTy → Type} [FloatOps F]

/-- Trip `k` stores its columns from `256 k`. -/
theorem off8_eq : ∀ k : Fin k0_t1_loop.trips, k0_off8 k = ![0, 256 * k.val] := by decide +kernel

/-- The loop runs four trips. -/
theorem trips_eq : k0_t1_loop.trips = 4 := by decide +kernel

section
variable (c : Dev nD) (i : grid0.Coords)
    (a1 : Memref sig .tc .vmem S64x5120 .bf16) (h1 : a1.IsWhole) (a2 : Memref sig .tc .vmem S40x128 .i32) (h2 : a2.IsWhole)
    (a3 : Memref sig .tc .vmem S640x1024 .i32) (h3 : a3.IsWhole) (a4 : Memref sig .tc .vmem S40x1024 .bf16) (h4 : a4.IsWhole)
    (a5 : Memref sig .tc .vmem S40x128 .i32) (h5 : a5.IsWhole) (a6 : Memref sig .tc .vmem S64x1024 .bf16) (h6 : a6.IsWhole)
    (a7 : Memref sig .tc .vmem S128x1280 .i32) (h7 : a7.IsWhole) (a8 : Memref sig .tc .vmem S512x2x128 .bf16) (h8 : a8.IsWhole)
    (a9 : Memref sig .tc .vmem S512x128 .i32) (h9 : a9.IsWhole)
    (f1 : BufTy.Contents (Elt F) a1.view.ty) (f2 : BufTy.Contents (Elt F) a2.view.ty) (f3 : BufTy.Contents (Elt F) a3.view.ty)
    (f6 : BufTy.Contents (Elt F) a6.view.ty)
    (f7 : BufTy.Contents (Elt F) a7.view.ty) (f8 : BufTy.Contents (Elt F) a8.view.ty) (f9 : BufTy.Contents (Elt F) a9.view.ty)

/-- What trip `k` stores. -/
def tripOut (k : Fin k0_t1_loop.trips) : FVec F S64x256 .bf16 :=
  truncf .bf16 (accAt a1 a2 a3 a7 a8 a9 f1 f2 f3 f8 f9 k 20 le_rfl) bitsLt_bf16_f32

/-- One more trip's store on top of the earlier ones'. -/
theorem read_pb_succ (k : Fin k0_t1_loop.trips) :
    a6.view.read (Elt F) (a6.view.writes (Elt F) f6
      (pb_k0_t1 Variants.none c none i a1 h1 a2 h2 a3 h3 a4 h4 a5 h5 a6 h6 a7 h7 a8 h8 a9 h9 f1 f2 f3 f8 f9 f6 f7 (k.val + 1)).1)
      = a6.view.read (Elt F) (a6.view.writes (Elt F) f6
        (⟨Rect.unit (k0_off8 k) S64x256.size (by rw [off8_eq]; revert k; decide +kernel), tripOut a1 a2 a3 a7 a8 a9 f1 f2 f3 f8 f9 k⟩
          :: (pb_k0_t1 Variants.none c none i a1 h1 a2 h2 a3 h3 a4 h4 a5 h5 a6 h6 a7 h7 a8 h8 a9 h9 f1 f2 f3 f8 f9 f6 f7 k.val).1)) := by
  rw [pb_k0_t1_succ]
  unfold tripL_k0_t1 trip_k0_t1
  dsimp only
  rw [trip_r]
  rfl

/-- After `n` trips, column `256 k + n'` of an already run trip `k` holds what that trip stored. -/
theorem read_pb (b : Fin 64) (n' : Fin 256) (k : Fin k0_t1_loop.trips) (N : Fin 1024) (hN : N.val = 256 * k.val + n'.val) :
    ∀ n : ℕ, n ≤ k0_t1_loop.trips → k.val < n →
    a6.view.read (Elt F) (a6.view.writes (Elt F) f6
      (pb_k0_t1 Variants.none c none i a1 h1 a2 h2 a3 h3 a4 h4 a5 h5 a6 h6 a7 h7 a8 h8 a9 h9 f1 f2 f3 f8 f9 f6 f7 n).1) (ix2 b N)
      = tripOut a1 a2 a3 a7 a8 a9 f1 f2 f3 f8 f9 k (ix2 b n') := by
  intro n
  induction n with
  | zero => intro _ h; omega
  | succ n ih =>
    intro hn hk
    have e := read_pb_succ c i a1 h1 a2 h2 a3 h3 a4 h4 a5 h5 a6 h6 a7 h7 a8 h8 a9 h9 f1 f2 f3 f6 f7 f8 f9 ⟨n, by omega⟩
    refine (congrFun e (ix2 b N)).trans ?_
    by_cases hkn : k.val = n
    · subst hkn
      exact View.read_writes_cons_unit_of_mem a6.view f6 _ _ _ (ix2 b N) (ix2 b n') (off8_eq _) fun a => by
        match a with
        | ⟨0, _⟩ => exact (Nat.zero_add _).symm
        | ⟨1, _⟩ => exact hN
    · refine (View.read_writes_cons_unit_of_not_mem a6.view f6 _ _ _ (ix2 b N) (off8_eq _) ⟨1, by decide⟩ (Or.inl ?_)).trans
        (ih (by omega) (by omega))
      show N.val < 256 * n
      omega

end

end Cert.KernelIdeal.Hand

end
-- ==== Proof.Regroup.lean ====
/- The order in which the kernel adds the 5120 products: 20 steps, step `n = 4 t + q` taking nibble `q` of the rows in column tiles
   `2 t` and `2 t + 1`, is a rearrangement of the sum over all rows. -/
module

public import Idealize.ShloMosaic.Lib.Pointwise

@[expose] public section

namespace Cert.Nibbles

/-- The row number of lane `l` of column tile `ct` at nibble `q`. -/
def rowOf (q ct l : ℕ) : ℕ := 4 * (ct * 128 + l) + q

/-- A row named by strand, tile and lane is one of the 5120. -/
theorem rowOf_lt {q ct l : ℕ} (hq : q < 4) (hc : ct < 10) (hl : l < 128) : rowOf q ct l < 5120 := by unfold rowOf; omega

/-- The sum over the twenty steps is the sum over all rows. -/
theorem sum_steps {M : Type} [AddCommMonoid M] (T : Fin 5120 → M) :
    ∑ n : Fin 20, (∑ l : Fin 128, T ⟨rowOf (n.val % 4) (2 * (n.val / 4)) l.val, rowOf_lt (by omega) (by omega) l.isLt⟩
        + ∑ l : Fin 128, T ⟨rowOf (n.val % 4) (2 * (n.val / 4) + 1) l.val, rowOf_lt (by omega) (by omega) l.isLt⟩)
      = ∑ k : Fin 5120, T k := by
  rw [Idealize.ShloMosaic.Fin.sum_univ_tiles 1280 4 rfl T, Finset.sum_comm]
  rw [Idealize.ShloMosaic.Fin.sum_univ_tiles 5 4 rfl, Finset.sum_comm]
  refine Finset.sum_congr rfl fun q _ => ?_
  rw [Idealize.ShloMosaic.Fin.sum_univ_tiles 10 128 rfl, Idealize.ShloMosaic.Fin.sum_univ_tiles 5 2 rfl]
  refine Finset.sum_congr rfl fun t _ => ?_
  rw [Fin.sum_univ_two]
  refine congrArg₂ _ ?_ ?_
  · refine Finset.sum_congr rfl fun l _ => congrArg T (Fin.ext ?_)
    simp only [rowOf]
    have := q.isLt
    simp
    omega
  · refine Finset.sum_congr rfl fun l _ => congrArg T (Fin.ext ?_)
    simp only [rowOf]
    have := q.isLt
    simp
    omega

end Cert.Nibbles
-- ==== Proof.KernelIdealWeight.lean ====
/- The trip's arithmetic over the extended reals: a weight element is (nibble − zero) · scale at the row's group, a step adds 256
   products, and twenty steps add all 5120. -/
module

public import proofs.«01_k».proof.Proof.KernelIdealTile
public import proofs.«01_k».proof.Proof.KernelIdealOut
public import proofs.«01_k».proof.Proof.Regroup
public import Idealize.ShloMosaic.Lib.Pointwise

@[expose] public section

set_option maxRecDepth 65536

noncomputable section

namespace Cert.KernelIdeal.Hand

open Cert.KernelIdeal Cert.KernelIdeal.Gen Cert.Nibbles
open Idealize.ShloMosaic hiding ix2
open Idealize.ShloMosaic.TcCoe Idealize.ShloMosaic.Tactic Idealize.ShloMosaic.ValueIdx

/-! ## A weight element -/

/-- An index in range is left alone by the wrap of negative indices. -/
theorem wrap_of_lt (b : BitVec 32) (h : b.toNat < 40) :
    Scalar.select (Scalar.cmpi .slt b 0#32) (Scalar.addi b 128#32) b = b := by
  have hi : b.toInt = (b.toNat : ℤ) := BitVec.toInt_eq_toNat_of_lt (by omega)
  have hs : b.slt 0#32 = false := by simp [BitVec.slt, hi]
  simp [Scalar.select, Scalar.cmpi, IntOp.cmpi, hs]

/-- The index of a gather of packed zeros, when the group index is in range: the staged group index of the lane, in every row. -/
theorem idxWords_at (ix : Vec Ideal S1x128 .i32) (r l : Fin 128) (h : (ix (ix2 (0 : Fin 1) l) : BitVec 32).toNat < 40) :
    idxWords ix (ix2 r l) = ix (ix2 (0 : Fin 1) l) := by
  unfold idxWords
  rw [shapeCast_shapeCast, shapeCast_self, shapeCast_self]
  have e := broadcastTo_1b_ab_apply ix broadcasts_S1x128_S128x128 r l
  show Scalar.select (Scalar.cmpi .slt (broadcastTo S128x128 ix broadcasts_S1x128_S128x128 (ix2 r l)) 0#32)
    (Scalar.addi (broadcastTo S128x128 ix broadcasts_S1x128_S128x128 (ix2 r l)) 128#32) (broadcastTo S128x128 ix broadcasts_S1x128_S128x128 (ix2 r l)) = _
  rw [e]
  exact wrap_of_lt _ h

/-- The same for the gather of scales. -/
theorem idxFloats_at (ix : Vec Ideal S1x128 .i32) (r : Fin 256) (l : Fin 128) (h : (ix (ix2 (0 : Fin 1) l) : BitVec 32).toNat < 40) :
    idxFloats ix (ix2 r l) = ix (ix2 (0 : Fin 1) l) := by
  unfold idxFloats
  rw [shapeCast_shapeCast, shapeCast_self, shapeCast_self]
  have e := broadcastTo_1b_ab_apply ix broadcasts_S1x128_S256x128 r l
  show Scalar.select (Scalar.cmpi .slt (broadcastTo S256x128 ix broadcasts_S1x128_S256x128 (ix2 r l)) 0#32)
    (Scalar.addi (broadcastTo S256x128 ix broadcasts_S1x128_S256x128 (ix2 r l)) 128#32) (broadcastTo S256x128 ix broadcasts_S1x128_S256x128 (ix2 r l)) = _
  rw [e]
  exact wrap_of_lt _ h

/-- A gather along the lanes at an index in range. -/
theorem gather_at {α : Type} {R : ℕ} (x : (⟨2, ![R, 128]⟩ : Shape).Idx → α) (idx : IVec ⟨2, ![R, 128]⟩ 32) (r : Fin R) (l : Fin 128) (g : Fin 128)
    (h : (idx (ix2 r l)).toNat = g.val) : dynamicGather (s := ⟨2, ![R, 128]⟩) 1 x idx (ix2 r l) = x (ix2 r g) := by
  rw [dynamicGather_apply]
  refine congrArg x (funext fun a => Fin.ext ?_)
  match a with
  | ⟨0, _⟩ => rfl
  | ⟨1, _⟩ =>
    show (idx (ix2 r l)).toNat % 128 = g.val
    rw [h]; exact Nat.mod_eq_of_lt g.isLt

/-- One weight: the half-word's nibble `q` minus the zero held in the gathered half-word, times the gathered scale. -/
theorem wHalf_at (q : ℕ) (hq : q < 4) (st : FVec Ideal S256x128 .f32) (zt w : Vec Ideal S128x128 .i32) (ix : Vec Ideal S1x128 .i32)
    (n : Fin 256) (l g : Fin 128) (hg : (ix (ix2 (0 : Fin 1) l) : BitVec 32).toNat = g.val) (hg' : g.val < 40) (z : BitVec 4)
    (hz : BitVec.extractLsb' (16 * (n.val % 2)) 16 (zt (ix2 ⟨n.val / 2, by omega⟩ g) : BitVec 32) = 0x4300#16 ||| z.setWidth 16) :
    wHalf (BitVec.ofNat 32 (4 * q)) st zt w ix (ix2 n l)
      = (val ((BitVec.extractLsb' (16 * (n.val % 2)) 16 (w (ix2 ⟨n.val / 2, by omega⟩ l) : BitVec 32)).extractLsb' (4 * q) 4) - val z)
        * st (ix2 n g) := by
  have eg : (ix (ix2 (0 : Fin 1) l) : BitVec 32).toNat < 40 := by omega
  have e1 : bitcast S256x128 16 (ori (andi (shrsi w (broadcast S128x128 (BitVec.ofNat 32 (4 * q)))) (broadcast S128x128 983055#32) : IVec S128x128 32)
        (broadcast S128x128 1124090624#32) : IVec S128x128 32) bitcasts_S128x128_w32_S256x128_w16 (ix2 n l)
      = 0x4300#16 ||| ((BitVec.extractLsb' (16 * (n.val % 2)) 16 (w (ix2 ⟨n.val / 2, by omega⟩ l) : BitVec 32)).extractLsb' (4 * q) 4).setWidth 16 := by
    refine (bitcast_32_16_at _ _ n l ⟨n.val / 2, by omega⟩ rfl).trans ?_
    refine Eq.trans ?_ (code_half _ _ q (by omega) hq)
    refine congrArg (fun v => BitVec.extractLsb' (16 * (n.val % 2)) 16 ((v &&& 983055#32) ||| 1124090624#32)) ?_
    show IntOp.shrsi .vector (w (ix2 ⟨n.val / 2, by omega⟩ l)) (BitVec.ofNat 32 (4 * q)) = _
    unfold IntOp.shrsi
    have e : (BitVec.ofNat 32 (4 * q)).toNat = 4 * q := by rw [BitVec.toNat_ofNat]; omega
    rw [e, if_pos (by omega), BitVec.sshiftRight', e]
  have e2 : bitcast S256x128 16 (dynamicGather 1 zt (idxWords ix) : IVec S128x128 32) bitcasts_S128x128_w32_S256x128_w16 (ix2 n l)
      = 0x4300#16 ||| z.setWidth 16 := by
    refine (bitcast_32_16_at _ _ n l ⟨n.val / 2, by omega⟩ rfl).trans ?_
    rw [← hz]
    exact congrArg _ (gather_at zt _ _ l g (by rw [idxWords_at ix _ l eg]; exact hg))
  have e3 : dynamicGather 1 st (idxFloats ix) (ix2 n l) = st (ix2 n g) :=
    gather_at st _ n l g (by rw [idxFloats_at ix n l eg]; exact hg)
  unfold wHalf
  show (Ideal.ofBits .bf16 _ - Ideal.ofBits .bf16 _) * (dynamicGather 1 st (idxFloats ix) (ix2 n l) : EReal) = _
  rw [e1, e2, e3, ofBits_4300, ofBits_4300, sub_offset]

/-- The group of row `k`, from the reordered group indices. -/
def groupOf (x2 : Vec Ideal S40x128 .i32) (k : Fin 5120) : BitVec 32 :=
  x2 (ix2 ⟨(k.val % 4) * 10 + k.val / 4 / 128, by omega⟩ ⟨k.val / 4 % 128, by omega⟩)

/-- The dequantized weight of row `k` and column `N` of a block, given the staged group indices, codes, scales and zeros. -/
def weightAt (x2 : Vec Ideal S40x128 .i32) (x3 : Vec Ideal S640x1024 .i32) (x4 : Vec Ideal S40x1024 .bf16) (x5 : Vec Ideal S40x128 .i32)
    (N : Fin 1024) (k : Fin 5120) : EReal :=
  (val (nib (x3 (ix2 ⟨k.val / 8, by omega⟩ N)) (k.val % 8))
      - val (nib (x5 (ix2 ⟨(groupOf x2 k).toNat % 40, Nat.mod_lt _ (by decide)⟩ ⟨N.val / 8, by omega⟩)) (N.val % 8)))
    * x4 (ix2 ⟨(groupOf x2 k).toNat % 40, Nat.mod_lt _ (by decide)⟩ N)

/-- One product. -/
def termAt (x1 : Vec Ideal S64x5120 .bf16) (x2 : Vec Ideal S40x128 .i32) (x3 : Vec Ideal S640x1024 .i32) (x4 : Vec Ideal S40x1024 .bf16)
    (x5 : Vec Ideal S40x128 .i32) (b : Fin 64) (N : Fin 1024) (k : Fin 5120) : EReal :=
  x1 (ix2 b ⟨(k.val % 4) * 1280 + k.val / 4, by omega⟩) * weightAt x2 x3 x4 x5 N k

section
variable (a1 : Memref sig .tc .vmem S64x5120 .bf16) (a2 : Memref sig .tc .vmem S40x128 .i32)
    (a3 : Memref sig .tc .vmem S640x1024 .i32) (a4 : Memref sig .tc .vmem S40x1024 .bf16)
    (a5 : Memref sig .tc .vmem S40x128 .i32) (a7 : Memref sig .tc .vmem S128x1280 .i32) (a8 : Memref sig .tc .vmem S512x2x128 .bf16)
    (a9 : Memref sig .tc .vmem S512x128 .i32)
    (f1 : BufTy.Contents (Elt Ideal) a1.view.ty) (f2 : BufTy.Contents (Elt Ideal) a2.view.ty) (f3 : BufTy.Contents (Elt Ideal) a3.view.ty)
    (f4 : BufTy.Contents (Elt Ideal) a4.view.ty) (f5 : BufTy.Contents (Elt Ideal) a5.view.ty)
    (f8 : BufTy.Contents (Elt Ideal) a8.view.ty) (f9 : BufTy.Contents (Elt Ideal) a9.view.ty) (k : Fin k0_t1_loop.trips)
    (hr : ∀ i, (a2.view.read (Elt Ideal) f2 i : BitVec 32).toNat < 40)

include hr in
/-- The trip's weight tile for nibble `q` of column tile `ct`, element by element. -/
theorem wAt_at (q ct : ℕ) (hq : q < 4) (hc : ct < 10) (n : Fin 256) (l : Fin 128) (N : Fin 1024) (hN : N.val = 256 * k.val + n.val) :
    wAt a2 a3 a7 a8 a9 f2 f3 (scalesIn a4 a8 f4 f8) (zerosIn a5 a9 f5 f9) k q ct hq hc (ix2 n l)
      = weightAt (a2.view.read (Elt Ideal) f2) (a3.view.read (Elt Ideal) f3) (a4.view.read (Elt Ideal) f4) (a5.view.read (Elt Ideal) f5) N
          ⟨rowOf q ct l.val, rowOf_lt hq hc l.isLt⟩ := by
  have hk := trip_lt k
  have hrow : rowOf q ct l.val = 4 * (ct * 128 + l.val) + q := rfl
  have ei : groupOf (a2.view.read (Elt Ideal) f2) ⟨rowOf q ct l.val, rowOf_lt hq hc l.isLt⟩
      = a2.view.read (Elt Ideal) f2 (ix2 ⟨q * 10 + ct, by omega⟩ l) := by
    unfold groupOf
    refine congrArg _ (congrArg₂ ix2 (Fin.ext ?_) (Fin.ext ?_))
    · show rowOf q ct l.val % 4 * 10 + rowOf q ct l.val / 4 / 128 = q * 10 + ct
      rw [hrow]; omega
    · show rowOf q ct l.val / 4 % 128 = l.val
      rw [hrow]; omega
  have hg := hr (ix2 ⟨q * 10 + ct, by omega⟩ l)
  unfold wAt
  rw [wHalf_at q hq _ _ _ _ n l ⟨(a2.view.read (Elt Ideal) f2 (ix2 ⟨q * 10 + ct, by omega⟩ l) : BitVec 32).toNat, by omega⟩
    (by rw [iRow_at]) hg _ (zeros_at a5 a9 f5 f9 k ⟨n.val / 2, by omega⟩ _ hg (n.val % 2) (by omega) N (by
      show N.val = 256 * k.val + 2 * (n.val / 2) + n.val % 2; omega))]
  rw [wTile_at, wWord_half k _ _ _ _ (by omega), scales_at a4 a8 f4 f8 k n _ hg (by omega)]
  unfold weightAt half
  rw [nib_half _ _ _ hq]
  have hgm : ∀ h, (⟨(groupOf (a2.view.read (Elt Ideal) f2) ⟨rowOf q ct l.val, rowOf_lt hq hc l.isLt⟩).toNat % 40, h⟩ : Fin 40)
      = ⟨(a2.view.read (Elt Ideal) f2 (ix2 ⟨q * 10 + ct, by omega⟩ l) : BitVec 32).toNat, hg⟩ := fun h => Fin.ext (by
    show (groupOf (a2.view.read (Elt Ideal) f2) ⟨rowOf q ct l.val, rowOf_lt hq hc l.isLt⟩).toNat % 40 = _
    rw [ei]; exact Nat.mod_eq_of_lt hg)
  rw [hgm]
  refine congrArg₂ (fun a b : EReal => a * b) (congrArg (fun v => val v - _) (congrArg₂ nib (congrArg _ (congrArg₂ ix2 (Fin.ext ?_) (Fin.ext ?_))) ?_)) ?_
  · show (ct * 128 + l.val) / 2 = rowOf q ct l.val / 8
    rw [hrow]; omega
  · show (256 * k.val + 2 * (n.val / 2) + n.val % 2) % 1024 = N.val
    omega
  · show 4 * ((ct * 128 + l.val) % 2) + q = rowOf q ct l.val % 8
    rw [hrow]; omega
  · show (a4.view.read (Elt Ideal) f4 _ : EReal) = a4.view.read (Elt Ideal) f4 _
    exact congrArg _ (congrArg₂ ix2 rfl (Fin.ext hN.symm))

/-! ## The steps -/

/-- One step at an element: 128 products with each of the two tiles added to the sum so far. -/
theorem step_at (acc : FVec Ideal S64x256 .f32) (h0 h1 : FVec Ideal S256x128 .bf16) (x : Vec Ideal S64x256 .bf16) (b : Fin 64) (n : Fin 256) :
    step acc h0 h1 x (ix2 b n)
      = acc (ix2 b n) + (∑ l : Fin 128, x (ix2 b ⟨l.val, by omega⟩) * h0 (ix2 n l)
          + ∑ l : Fin 128, x (ix2 b ⟨128 + l.val, by omega⟩) * h1 (ix2 n l)) := by
  pointwise [step]
  rfl

include hr in
/-- The sum after `n` steps. -/
theorem accAt_at (b : Fin 64) (n : Fin 256) (N : Fin 1024) (hN : N.val = 256 * k.val + n.val) : ∀ (m : ℕ) (hm : m ≤ 20),
    accAt a1 a2 a3 a7 a8 a9 f1 f2 f3 (scalesIn a4 a8 f4 f8) (zerosIn a5 a9 f5 f9) k m hm (ix2 b n)
      = ∑ s : Fin m, (∑ l : Fin 128, termAt (a1.view.read (Elt Ideal) f1) (a2.view.read (Elt Ideal) f2) (a3.view.read (Elt Ideal) f3)
            (a4.view.read (Elt Ideal) f4) (a5.view.read (Elt Ideal) f5) b N ⟨rowOf (s.val % 4) (2 * (s.val / 4)) l.val, rowOf_lt (by omega) (by omega) l.isLt⟩
          + ∑ l : Fin 128, termAt (a1.view.read (Elt Ideal) f1) (a2.view.read (Elt Ideal) f2) (a3.view.read (Elt Ideal) f3)
            (a4.view.read (Elt Ideal) f4) (a5.view.read (Elt Ideal) f5) b N ⟨rowOf (s.val % 4) (2 * (s.val / 4) + 1) l.val, rowOf_lt (by omega) (by omega) l.isLt⟩) := by
  intro m
  induction m with
  | zero =>
    intro _
    rw [Fin.sum_univ_zero]
    show Ideal.ofBits .f32 0x00000000#32 = 0
    exact Ideal.ofBits_zero_f32
  | succ m ih =>
    intro hm
    rw [accAt, step_at, ih (by omega), Fin.sum_univ_castSucc (n := m)]
    refine congrArg₂ _ rfl (congrArg₂ _ ?_ ?_)
    · refine Finset.sum_congr rfl fun l _ => ?_
      rw [wAt_at a2 a3 a4 a5 a7 a8 a9 f2 f3 f4 f5 f8 f9 k hr _ _ _ _ n l N hN, xCols_at]
      refine congrArg₂ (fun a b : EReal => a * b) (congrArg _ (congrArg₂ ix2 rfl (Fin.ext ?_))) rfl
      show m % 4 * 1280 + m / 4 * 256 + l.val = rowOf (m % 4) (2 * (m / 4)) l.val % 4 * 1280 + rowOf (m % 4) (2 * (m / 4)) l.val / 4
      unfold rowOf; omega
    · refine Finset.sum_congr rfl fun l _ => ?_
      rw [wAt_at a2 a3 a4 a5 a7 a8 a9 f2 f3 f4 f5 f8 f9 k hr _ _ _ _ n l N hN, xCols_at]
      refine congrArg₂ (fun a b : EReal => a * b) (congrArg _ (congrArg₂ ix2 rfl (Fin.ext ?_))) rfl
      show m % 4 * 1280 + m / 4 * 256 + (128 + l.val) = rowOf (m % 4) (2 * (m / 4) + 1) l.val % 4 * 1280 + rowOf (m % 4) (2 * (m / 4) + 1) l.val / 4
      unfold rowOf; omega

include hr in
/-- What trip `k` stores at an element: all 5120 products. -/
theorem tripOut_at (b : Fin 64) (n : Fin 256) (N : Fin 1024) (hN : N.val = 256 * k.val + n.val) :
    tripOut a1 a2 a3 a7 a8 a9 f1 f2 f3 (scalesIn a4 a8 f4 f8) (zerosIn a5 a9 f5 f9) k (ix2 b n)
      = ∑ r : Fin 5120, termAt (a1.view.read (Elt Ideal) f1) (a2.view.read (Elt Ideal) f2) (a3.view.read (Elt Ideal) f3)
          (a4.view.read (Elt Ideal) f4) (a5.view.read (Elt Ideal) f5) b N r := by
  refine Eq.trans ?_ (sum_steps _)
  exact accAt_at a1 a2 a3 a4 a5 a7 a8 a9 f1 f2 f3 f4 f5 f8 f9 k hr b n N hN 20 le_rfl

end

end Cert.KernelIdeal.Hand

end
-- ==== Proof.Linear.lean ====
/- The plain linear layer both programs compute, as a function of the five arguments. -/
module

public import proofs.«01_k».proof.Proof.Bits
public import Idealize.ShloMosaic.Lib.Pointwise
public import Idealize.ShloMosaic.Lib.ValueLayout
public import Idealize.ShloMosaic.Lib.StableHlo

@[expose] public section

noncomputable section

namespace Cert.Nibbles

open Idealize.ShloMosaic hiding ix1 ix2 ix3
open Idealize.ShloMosaic.ValueIdx

/-- The dequantized weight of row `k` and output column `n`: (code − zero of the row's group) · scale of the row's group. -/
def weight (qw : Vec Ideal ⟨2, ![640, 35840]⟩ .i32) (sc : Vec Ideal ⟨2, ![40, 35840]⟩ .bf16) (qz : Vec Ideal ⟨2, ![40, 4480]⟩ .i32)
    (g : Vec Ideal ⟨1, ![5120]⟩ .i32) (n : Fin 35840) (k : Fin 5120) : EReal :=
  (val (nib (qw (ix2 ⟨k.val / 8, by omega⟩ n)) (k.val % 8))
      - val (nib (qz (ix2 ⟨(g (ix1 k) : BitVec 32).toNat % 40, Nat.mod_lt _ (by decide)⟩ ⟨n.val / 8, by omega⟩)) (n.val % 8)))
    * sc (ix2 ⟨(g (ix1 k) : BitVec 32).toNat % 40, Nat.mod_lt _ (by decide)⟩ n)

/-- The layer at row `b` and column `n`: the sum over the 5120 inputs of input times dequantized weight. -/
def linear (x : Vec Ideal ⟨3, ![64, 1, 5120]⟩ .bf16) (qw : Vec Ideal ⟨2, ![640, 35840]⟩ .i32) (sc : Vec Ideal ⟨2, ![40, 35840]⟩ .bf16)
    (qz : Vec Ideal ⟨2, ![40, 4480]⟩ .i32) (g : Vec Ideal ⟨1, ![5120]⟩ .i32) (b : Fin 64) (n : Fin 35840) : EReal :=
  ∑ k : Fin 5120, x (ix3 b (0 : Fin 1) k) * weight qw sc qz g n k

end Cert.Nibbles

end
-- ==== Proof.KernelIdealValue.lean ====
/- From the body to the whole result: each grid point's block of the output, and the array they assemble into. -/
module

public import proofs.«01_k».proof.Proof.KernelIdealWeight
public import proofs.«01_k».proof.Proof.Linear
public import Idealize.ShloMosaic.Lib.Pipeline.ValueKit
public import Idealize.ShloMosaic.Lib.Claim

@[expose] public section

set_option maxRecDepth 65536

noncomputable section

namespace Cert.KernelIdeal.Hand

open Cert.KernelIdeal Cert.KernelIdeal.Gen Cert.Nibbles
open Idealize.ShloMosaic hiding ix1 ix2 ix3
open Idealize.ShloMosaic.TcCoe Idealize.ShloMosaic.Tactic Idealize.ShloMosaic.ValueIdx

/-! ## The body's output -/

/-- The body's output at an element, from the staged inputs: all 5120 products. -/
theorem bodyOut_at (c : Dev nD) (i : grid0.Coords)
    (a1 : Memref sig .tc .vmem S64x5120 .bf16) (h1 : a1.IsWhole) (a2 : Memref sig .tc .vmem S40x128 .i32) (h2 : a2.IsWhole)
    (a3 : Memref sig .tc .vmem S640x1024 .i32) (h3 : a3.IsWhole) (a4 : Memref sig .tc .vmem S40x1024 .bf16) (h4 : a4.IsWhole)
    (a5 : Memref sig .tc .vmem S40x128 .i32) (h5 : a5.IsWhole) (a6 : Memref sig .tc .vmem S64x1024 .bf16) (h6 : a6.IsWhole)
    (a7 : Memref sig .tc .vmem S128x1280 .i32) (h7 : a7.IsWhole) (a8 : Memref sig .tc .vmem S512x2x128 .bf16) (h8 : a8.IsWhole)
    (a9 : Memref sig .tc .vmem S512x128 .i32) (h9 : a9.IsWhole)
    (f1 : BufTy.Contents (Elt Ideal) a1.view.ty) (f2 : BufTy.Contents (Elt Ideal) a2.view.ty) (f3 : BufTy.Contents (Elt Ideal) a3.view.ty)
    (f4 : BufTy.Contents (Elt Ideal) a4.view.ty) (f5 : BufTy.Contents (Elt Ideal) a5.view.ty) (f6 : BufTy.Contents (Elt Ideal) a6.view.ty)
    (f7 : BufTy.Contents (Elt Ideal) a7.view.ty) (f8 : BufTy.Contents (Elt Ideal) a8.view.ty) (f9 : BufTy.Contents (Elt Ideal) a9.view.ty)
    (hr : ∀ i, (a2.view.read (Elt Ideal) f2 i : BitVec 32).toNat < 40) (b : Fin 64) (N : Fin 1024) :
    bodyOut (F := Ideal) c i a1 h1 a2 h2 a3 h3 a4 h4 a5 h5 a6 h6 a7 h7 a8 h8 a9 h9 f1 f2 f3 f4 f5 f6 f7 f8 f9 (ix2 b N)
      = ∑ r : Fin 5120, termAt (a1.view.read (Elt Ideal) f1) (a2.view.read (Elt Ideal) f2) (a3.view.read (Elt Ideal) f3)
          (a4.view.read (Elt Ideal) f4) (a5.view.read (Elt Ideal) f5) b N r := by
  have hk : N.val / 256 < k0_t1_loop.trips := by rw [trips_eq]; omega
  have hN : N.val = 256 * (⟨N.val / 256, hk⟩ : Fin k0_t1_loop.trips).val + (⟨N.val % 256, by omega⟩ : Fin 256).val := by
    show N.val = 256 * (N.val / 256) + N.val % 256; omega
  refine Eq.trans ?_ (tripOut_at a1 a2 a3 a4 a5 a7 a8 a9 f1 f2 f3 f4 f5 f8 f9 ⟨N.val / 256, hk⟩ hr b ⟨N.val % 256, by omega⟩ N hN)
  exact read_pb c i a1 h1 a2 h2 a3 h3 a4 h4 a5 h5 a6 h6 a7 h7 a8 h8 a9 h9 f1 f2 f3 f6 f7 (scalesIn a4 a8 f4 f8) (zerosIn a5 a9 f5 f9)
    b ⟨N.val % 256, by omega⟩ ⟨N.val / 256, hk⟩ N hN _ le_rfl hk

/-! ## The blocks a grid point finds -/

variable (m : (ℓ : Loc nD τ sig) → Buf (Elt Ideal) ℓ)

/-- Where each window's block lies at a grid point. -/
theorem idx : ∀ t : Fin cfg0.N, win0_0.index t = ![0, 0] ∧ win0_1.index t = ![0, 0] ∧ win0_2.index t = ![0, t.val] ∧ win0_3.index t = ![0, t.val]
    ∧ win0_4.index t = ![0, t.val] ∧ win0_5.index t = ![0, t.val] ∧ t.val < 35 := (by decide +kernel : ∀ t : Fin grid0.N, _)

/-- The reordered inputs: strand `q` of the inputs, `k ≡ q (mod 4)`, lies in 1280 columns of its own. -/
theorem x_at (c : Dev nD) (b : Fin 64) (k : Fin 5120) :
    (V m c main_v2 : Vec Ideal S64x5120 .bf16) (ix2 b ⟨(k.val % 4) * 1280 + k.val / 4, by omega⟩)
      = (m ((c.tc : Thread nD τ).loc main_arg0) : Vec Ideal S64x1x5120 .bf16) (ix3 b (0 : Fin 1) k) := by
  entry_read
  refine (shapeCast_apply _ _ _ (ix3 b (⟨k.val % 4, by omega⟩ : Fin 4) (⟨k.val / 4, by omega⟩ : Fin 1280) : S64x4x1280.Idx) ?_).trans ?_
  · refine (Shape.rowMajor_val_three _).trans (Eq.trans ?_ (Shape.rowMajor_val_two _).symm)
    show (b.val * 4 + k.val % 4) * 1280 + k.val / 4 = b.val * 5120 + ((k.val % 4) * 1280 + k.val / 4)
    omega
  · refine (transpose_apply _ _ _ _ (ix3 b (⟨k.val / 4, by omega⟩ : Fin 1280) (⟨k.val % 4, by omega⟩ : Fin 4) : S64x1280x4.Idx) ?_).trans ?_
    · intro a; fin_cases a <;> rfl
    · refine shapeCast_apply _ _ _ _ ?_
      refine (Shape.rowMajor_val_three _).trans (Eq.trans ?_ (Shape.rowMajor_val_three _).symm)
      show (b.val * 1 + 0) * 5120 + k.val = (b.val * 1280 + k.val / 4) * 4 + k.val % 4
      omega

/-- The reordered group indices: strand `q` lies in ten rows of its own. -/
theorem g_at (c : Dev nD) (k : Fin 5120) :
    groupOf (V m c main_v5 : Vec Ideal S40x128 .i32) k = (m ((c.tc : Thread nD τ).loc main_arg4) : Vec Ideal S5120 .i32) (ix1 k) := by
  unfold groupOf
  entry_read
  refine (shapeCast_apply _ _ _ (ix2 (⟨k.val % 4, by omega⟩ : Fin 4) (⟨k.val / 4, by omega⟩ : Fin 1280) : S4x1280.Idx) ?_).trans ?_
  · refine (Shape.rowMajor_val_two _).trans (Eq.trans ?_ (Shape.rowMajor_val_two _).symm)
    show (k.val % 4) * 1280 + k.val / 4 = (k.val % 4 * 10 + k.val / 4 / 128) * 128 + k.val / 4 % 128
    omega
  · refine (transpose_apply _ _ _ _ (ix2 (⟨k.val / 4, by omega⟩ : Fin 1280) (⟨k.val % 4, by omega⟩ : Fin 4) : S1280x4.Idx) ?_).trans ?_
    · intro a; fin_cases a <;> rfl
    · refine shapeCast_apply _ _ _ _ ?_
      refine (Shape.rowMajor_val_one _).trans (Eq.trans ?_ (Shape.rowMajor_val_two _).symm)
      show k.val = (k.val / 4) * 4 + k.val % 4
      omega

/-- Every grid point finds the whole array of reordered inputs. -/
theorem blk0 (c : Dev nD) (t : Fin cfg0.N) : (iblk m c 0 t : Vec Ideal S64x5120 .bf16) = V m c main_v2 := by
  blk_ext! [iblk, idx t]

/-- Every grid point finds the whole array of reordered group indices. -/
theorem blk1 (c : Dev nD) (t : Fin cfg0.N) : (iblk m c 1 t : Vec Ideal S40x128 .i32) = V m c main_v5 := by
  blk_ext! [iblk, idx t]

/-- Grid point `t` finds columns `1024 t ..` of the packed codes. -/
theorem blk2_at (c : Dev nD) (t : Fin cfg0.N) (p : Fin 640) (N : Fin 1024) (n : Fin 35840) (hn : n.val = t.val * 1024 + N.val) :
    (iblk m c 2 t : Vec Ideal S640x1024 .i32) (ix2 p N) = (m ((c.tc : Thread nD τ).loc main_arg1) : Vec Ideal S640x35840 .i32) (ix2 p n) := by
  blk_ext [iblk, V, idx t]
  exact hn.symm

/-- Grid point `t` finds columns `1024 t ..` of the scales. -/
theorem blk3_at (c : Dev nD) (t : Fin cfg0.N) (p : Fin 40) (N : Fin 1024) (n : Fin 35840) (hn : n.val = t.val * 1024 + N.val) :
    (iblk m c 3 t : Vec Ideal S40x1024 .bf16) (ix2 p N) = (m ((c.tc : Thread nD τ).loc main_arg2) : Vec Ideal S40x35840 .bf16) (ix2 p n) := by
  blk_ext [iblk, V, idx t]
  exact hn.symm

/-- Grid point `t` finds columns `128 t ..` of the packed zeros. -/
theorem blk4_at (c : Dev nD) (t : Fin cfg0.N) (p : Fin 40) (N : Fin 128) (n : Fin 4480) (hn : n.val = t.val * 128 + N.val) :
    (iblk m c 4 t : Vec Ideal S40x128 .i32) (ix2 p N) = (m ((c.tc : Thread nD τ).loc main_arg3) : Vec Ideal S40x4480 .i32) (ix2 p n) := by
  blk_ext [iblk, V, idx t]
  exact hn.symm

/-! ## The block a grid point writes -/

/-- Input `x` as launched. -/
abbrev xA (c : Dev nD) : Vec Ideal ⟨3, ![64, 1, 5120]⟩ .bf16 := m ((c.tc : Thread nD τ).loc main_arg0)
/-- The packed codes as launched. -/
abbrev qwA (c : Dev nD) : Vec Ideal ⟨2, ![640, 35840]⟩ .i32 := m ((c.tc : Thread nD τ).loc main_arg1)
/-- The scales as launched. -/
abbrev scA (c : Dev nD) : Vec Ideal ⟨2, ![40, 35840]⟩ .bf16 := m ((c.tc : Thread nD τ).loc main_arg2)
/-- The packed zeros as launched. -/
abbrev qzA (c : Dev nD) : Vec Ideal ⟨2, ![40, 4480]⟩ .i32 := m ((c.tc : Thread nD τ).loc main_arg3)
/-- The group indices as launched. -/
abbrev gA (c : Dev nD) : Vec Ideal ⟨1, ![5120]⟩ .i32 := m ((c.tc : Thread nD τ).loc main_arg4)

/-- The layer's output at core `c`, the whole array. -/
def result (c : Dev nD) : Vec Ideal S64x35840 .bf16 := fun i => linear (xA m c) (qwA m c) (scA m c) (qzA m c) (gA m c) (i 0) (i 1)

/-- Column `N` of grid point `t`'s block, in the whole array. -/
def colOf (t : Fin cfg0.N) (N : Fin 1024) : Fin 35840 := ⟨t.val * 1024 + N.val, by have := (idx t).2.2.2.2.2.2; omega⟩

/-- The layer's output at core `c`, grid point `t`'s block. -/
def outBlk (c : Dev nD) (t : Fin cfg0.N) : Vec Ideal S64x1024 .bf16 := fun i => result m c (ix2 (i 0) (colOf t (i 1)))

/-- One product of a grid point is one product of the layer. -/
theorem termAt_eq (c : Dev nD) (t : Fin cfg0.N) (b : Fin 64) (N : Fin 1024) (k : Fin 5120) :
    termAt (V m c main_v2) (V m c main_v5) (iblk m c 2 t) (iblk m c 3 t) (iblk m c 4 t) b N k
      = xA m c (ix3 b (0 : Fin 1) k) * weight (qwA m c) (scA m c) (qzA m c) (gA m c) (colOf t N) k := by
  have hg := g_at m c k
  have hc : (colOf t N).val = t.val * 1024 + N.val := rfl
  have hrow : (⟨(groupOf (V m c main_v5) k).toNat % 40, Nat.mod_lt _ (by decide)⟩ : Fin 40)
      = ⟨(gA m c (ix1 k) : BitVec 32).toNat % 40, Nat.mod_lt _ (by decide)⟩ := Fin.ext (congrArg (fun w : BitVec 32 => w.toNat % 40) hg)
  unfold termAt weightAt weight
  rw [hrow]
  refine congrArg₂ (fun a b : EReal => a * b) (x_at m c b k) (congrArg₂ (fun a b : EReal => a * b)
    (congrArg₂ (fun a b : EReal => a - b) (congrArg (fun w => val (nib w (k.val % 8))) (blk2_at m c t _ N (colOf t N) hc)) ?_)
    (blk3_at m c t _ N (colOf t N) hc))
  rw [show (colOf t N).val % 8 = N.val % 8 by omega]
  exact congrArg (fun w => val (nib w (N.val % 8))) (blk4_at m c t _ _ _ (by
    show (colOf t N).val / 8 = t.val * 128 + N.val / 8
    omega))

/-- When every group index is a group, so is every staged one. -/
theorem staged_lt (c : Dev nD) (hg : ∀ k : Fin 5120, (gA m c (ix1 k) : BitVec 32).toNat < 40) (i : S40x128.Idx) :
    (V m c main_v5 i : BitVec 32).toNat < 40 := by
  have h0 : (i 0).val < 40 := (i 0).isLt
  have h1 : (i 1).val < 128 := (i 1).isLt
  have hlt : 4 * ((i 0).val % 10 * 128 + (i 1).val) + (i 0).val / 10 < 5120 := by omega
  have hq : (4 * ((i 0).val % 10 * 128 + (i 1).val) + (i 0).val / 10) % 4 = (i 0).val / 10 := by omega
  have hd : (4 * ((i 0).val % 10 * 128 + (i 1).val) + (i 0).val / 10) / 4 = (i 0).val % 10 * 128 + (i 1).val := by omega
  have e := g_at m c ⟨4 * ((i 0).val % 10 * 128 + (i 1).val) + (i 0).val / 10, hlt⟩
  refine lt_of_eq_of_lt (congrArg BitVec.toNat (Eq.trans ?_ e)) (hg ⟨_, hlt⟩)
  unfold groupOf
  refine congrArg (V m c main_v5) (funext fun a => Fin.ext ?_)
  fin_cases a
  · show (i 0).val = (4 * ((i 0).val % 10 * 128 + (i 1).val) + (i 0).val / 10) % 4 * 10
      + (4 * ((i 0).val % 10 * 128 + (i 1).val) + (i 0).val / 10) / 4 / 128
    rw [hq, hd]; omega
  · show (i 1).val = (4 * ((i 0).val % 10 * 128 + (i 1).val) + (i 0).val / 10) / 4 % 128
    rw [hd]; omega

/-- Whatever a grid point finds in its buffers, it leaves the layer's block in the output's. -/
theorem outAt (c : Dev nD) (hg : ∀ k : Fin 5120, (gA m c (ix1 k) : BitVec 32).toNat < 40) (t : Fin cfg0.N) :
    OutAt m (· = outBlk m c t) c t := by
  intro f1 f2 f3 f4 f5 f6 f7 f8 f9 e1 e2 e3 e4 e5
  have hr : ∀ i, ((ms 1 t).view.read (Elt Ideal) f2 i : BitVec 32).toNat < 40 := by
    intro i
    have e : (ms 1 t).view.read (Elt Ideal) f2 = V m c main_v5 := e2.trans (blk1 m c t)
    rw [e]
    exact staged_lt m c hg i
  refine funext fun j => ?_
  obtain ⟨b, N, rfl⟩ : ∃ (b : Fin 64) (N : Fin 1024), j = ix2 b N := ⟨j 0, j 1, by funext a; fin_cases a <;> rfl⟩
  have e : outBlk m c t (ix2 b N)
      = ∑ k : Fin 5120, xA m c (ix3 b (0 : Fin 1) k) * weight (qwA m c) (scA m c) (qzA m c) (gA m c) (colOf t N) k := rfl
  refine Eq.trans ?_ e.symm
  refine (bodyOut_at c (grid0.coords t) _ _ _ _ _ _ _ _ _ _ _ _ _ _ _ _ _ _ f1 f2 f3 f4 f5 f6 f7 f8 f9 hr b N).trans ?_
  rw [e1, e2, e3, e4, e5]
  refine Finset.sum_congr rfl fun k _ => ?_
  refine Eq.trans ?_ (termAt_eq m c t b N k)
  rw [blk0 m c t, blk1 m c t]

/-! ## The whole result -/

/-- The 35 blocks assemble into the layer's output. -/
theorem final (c : Dev nD) : (dats m (outBlk m) 0 c).arrAt 5 cfg0.N = result m c := by
  refine (dats m (outBlk m) 0 c).arrAt_eq_of_covers 5 _ (by decide +kernel) fun t hf y => ?_
  blk_simp
  show result m c (ix2 (y 0) (colOf t (y 1))) = _
  refine congrArg (result m c) ?_
  blk_ext [idx t]
  all_goals rfl

open Idealize.SL.Sem in
/-- The run with its result: when every group index is a group, every weakly fair execution ends with the layer's output in the
    result and the five arguments as launched. -/
theorem run_result (ρ : Dev nD → PrngReg) (hg : ∀ (c : Dev nD) (k : Fin 5120), (gA m c (ix1 k) : BitVec 32).toNat < 40) :
    θ_run defs (onTc (τ := τ) (main (F := Ideal))) ⟨m, fun _ => 0, ρ⟩ (fun r => ∀ c : Dev nD,
      r.2.mem ((c.tc : Thread nD τ).loc main_v6) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
     ⟨(Pipeline.FramePost.out_eq h.1 c 5).trans (final m c),
      (Pipeline.FramePost.rest_eq h.1 c main_arg0 (Pipeline.mem_restRefs_of main_arg0 (by decide) (by decide))).trans (V_main_arg0 m c),
      (Pipeline.FramePost.in_eq h.1 c 2 rfl).trans (V_main_arg1 m c),
      (Pipeline.FramePost.in_eq h.1 c 3 rfl).trans (V_main_arg2 m c),
      (Pipeline.FramePost.in_eq h.1 c 4 rfl).trans (V_main_arg3 m c),
      (Pipeline.FramePost.rest_eq h.1 c main_arg4 (Pipeline.mem_restRefs_of main_arg4 (by decide) (by decide))).trans (V_main_arg4 m c)⟩)
    (run_main m ρ (outBlk m) fun c t => outAt m c (hg c) t)

end Cert.KernelIdeal.Hand

end
-- ==== Proof.ReferenceValue.lean ====
/- The reference, element by element: the plain linear layer. -/
module

public import proofs.«01_k».proof.Proof.Gen.ReferenceIdeal
public import proofs.«01_k».proof.Proof.Linear
public import Idealize.ShloMosaic.Lib.Routing.Ops
public import Idealize.ShloMosaic.Lib.Pipeline.Value

@[expose] public section

set_option maxRecDepth 65536

noncomputable section

namespace Cert.ReferenceIdeal.Hand

open Cert.ReferenceIdeal Cert.ReferenceIdeal.Gen Cert.Nibbles
open Idealize.ShloMosaic hiding ix1 ix2 ix3
open Idealize.ShloMosaic.ValueIdx

/-- The shift amounts: four bits per nibble. -/
def shifts : IVec S8 32 := muli (broadcastInDim S8 ![] bcast_S_S8 (constantI S_ 32 4#32)) (iotaInDim S8 32 0)

/-- The codes: nibble `k % 8` of word row `k / 8`. -/
def codes (qw : IVec S640x35840 32) : FVec Ideal S5120x35840 .bf16 :=
  sitofp .bf16 (shapeCast _ (andi (Host.shrsi
    (broadcastInDim S640x8x35840 ![0, 1, 2] bcast_S640x1x35840_S640x8x35840_0_1_2 (broadcastInDim S640x1x35840 ![0, 2] bcast_S640x35840_S640x1x35840_0_2 qw))
    (broadcastInDim S640x8x35840 ![0, 1, 2] bcast_S1x8x1_S640x8x35840_0_1_2 (broadcastInDim S1x8x1 ![1] bcast_S8_S1x8x1_1 shifts)))
    (broadcastInDim S640x8x35840 ![] bcast_S_S640x8x35840 (constantI S_ 32 15#32))) shapeCasts_S640x8x35840_S5120x35840)

/-- The zeros: nibble `n % 8` of word column `n / 8`. -/
def zeros (qz : IVec S40x4480 32) : FVec Ideal S40x35840 .bf16 :=
  sitofp .bf16 (shapeCast _ (andi (Host.shrsi
    (broadcastInDim S40x4480x8 ![0, 1, 2] bcast_S40x4480x1_S40x4480x8_0_1_2 (broadcastInDim S40x4480x1 ![0, 1] bcast_S40x4480_S40x4480x1_0_1 qz))
    (broadcastInDim S40x4480x8 ![0, 1, 2] bcast_S1x1x8_S40x4480x8_0_1_2 (broadcastInDim S1x1x8 ![2] bcast_S8_S1x1x8_2 shifts)))
    (broadcastInDim S40x4480x8 ![] bcast_S_S40x4480x8 (constantI S_ 32 15#32))) shapeCasts_S40x4480x8_S40x35840)

/-- The row indices the reference gathers at: the group indices, negative ones counted from the end. -/
def rows (g : IVec S5120 32) : IVec S5120x1 32 :=
  broadcastInDim S5120x1 ![0] bcast_S5120_S5120x1_0 (select (cmpi .slt g (broadcastInDim S5120 ![] bcast_S_S5120 (constantI S_ 32 0#32)))
    (addi g (broadcastInDim S5120 ![] bcast_S_S5120 (constantI S_ 32 40#32))) g)

/-- The reference's result, as its operations compose it. -/
def composed (x : FVec Ideal S64x1x5120 .bf16) (qw : IVec S640x35840 32) (sc : FVec Ideal S40x35840 .bf16) (qz : IVec S40x4480 32)
    (g : IVec S5120 32) : FVec Ideal S64x35840 .bf16 :=
  truncf .bf16 (Host.dotGeneral dot_S64x5120_S5120x35840_S64x35840_1_0_0_1_n_n none (shapeCast _ x shapeCasts_S64x1x5120_S64x5120)
    (mulf (subf (codes qw) (Host.gather gather_S40x35840_S5120x1_S5120x35840_1_0_n_n_0_1_135840 (zeros qz) (rows g)))
      (Host.gather gather_S40x35840_S5120x1_S5120x35840_1_0_n_n_0_1_135840 sc (rows g))) : FVec Ideal S64x35840 .f32) bitsLt_bf16_f32

/-- A nibble shifted down, masked and made a float is its value. -/
theorem unpack (X : BitVec 32) (q : ℕ) (hq : q < 8) :
    FloatOps.sitofp (F := Ideal) .bf16 (IntOp.andi (IntOp.shrsi .host X (IntOp.muli 4#32 (BitVec.ofNat 32 q))) 15#32) = val (nib X q) := by
  have e : (4#32 * BitVec.ofNat 32 q).toNat = 4 * q := by
    rw [BitVec.toNat_mul, BitVec.toNat_ofNat, BitVec.toNat_ofNat]; omega
  have h : IntOp.shrsi .host X (IntOp.muli 4#32 (BitVec.ofNat 32 q)) = X.sshiftRight (4 * q) := by
    show (if (4#32 * BitVec.ofNat 32 q).toNat < 32 then X.sshiftRight (4#32 * BitVec.ofNat 32 q).toNat else _) = _
    rw [e, if_pos (by omega)]
  rw [h]
  refine Eq.trans ?_ (toInt_setWidth (nib X q))
  rw [← shift_mask X q hq]
  rfl

/-- A code, element by element. -/
theorem codes_at (qw : IVec S640x35840 32) (k : Fin 5120) (n : Fin 35840) :
    codes qw (ix2 k n) = val (nib (qw (ix2 ⟨k.val / 8, by omega⟩ n)) (k.val % 8)) := by
  refine Eq.trans (congrArg (FloatOps.sitofp (F := Ideal) .bf16) (shapeCast_apply _ _ _
    (ix3 (⟨k.val / 8, by omega⟩ : Fin 640) (⟨k.val % 8, by omega⟩ : Fin 8) n : S640x8x35840.Idx) ?_)) ?_
  · refine (Shape.rowMajor_val_three _).trans (Eq.trans ?_ (Shape.rowMajor_val_two _).symm)
    show (k.val / 8 * 8 + k.val % 8) * 35840 + n.val = k.val * 35840 + n.val
    omega
  · have eA : broadcastInDim S640x8x35840 ![0, 1, 2] bcast_S640x1x35840_S640x8x35840_0_1_2 (broadcastInDim S640x1x35840 ![0, 2] bcast_S640x35840_S640x1x35840_0_2 qw)
        (ix3 (⟨k.val / 8, by omega⟩ : Fin 640) (⟨k.val % 8, by omega⟩ : Fin 8) n) = qw (ix2 ⟨k.val / 8, by omega⟩ n) :=
      (broadcastInDim_apply _ _ _ _ (ix3 (⟨k.val / 8, by omega⟩ : Fin 640) (0 : Fin 1) n) (by intro a; fin_cases a <;> rfl)).trans
        (broadcastInDim_apply _ _ _ _ (ix2 (⟨k.val / 8, by omega⟩ : Fin 640) n) (by intro a; fin_cases a <;> rfl))
    have eB : broadcastInDim S640x8x35840 ![0, 1, 2] bcast_S1x8x1_S640x8x35840_0_1_2 (broadcastInDim S1x8x1 ![1] bcast_S8_S1x8x1_1 shifts)
        (ix3 (⟨k.val / 8, by omega⟩ : Fin 640) (⟨k.val % 8, by omega⟩ : Fin 8) n) = IntOp.muli 4#32 (BitVec.ofNat 32 (k.val % 8)) :=
      (broadcastInDim_apply _ _ _ _ (ix3 (0 : Fin 1) (⟨k.val % 8, by omega⟩ : Fin 8) (0 : Fin 1)) (by intro a; fin_cases a <;> rfl)).trans
        (broadcastInDim_apply _ _ _ _ (ix1 (⟨k.val % 8, by omega⟩ : Fin 8)) (by intro a; fin_cases a; rfl))
    refine Eq.trans ?_ (unpack _ (k.val % 8) (by omega))
    exact congrArg₂ (fun a b => FloatOps.sitofp (F := Ideal) .bf16 (IntOp.andi (IntOp.shrsi .host a b) 15#32)) eA eB

/-- A zero, element by element. -/
theorem zeros_at (qz : IVec S40x4480 32) (r : Fin 40) (n : Fin 35840) :
    zeros qz (ix2 r n) = val (nib (qz (ix2 r ⟨n.val / 8, by omega⟩)) (n.val % 8)) := by
  refine Eq.trans (congrArg (FloatOps.sitofp (F := Ideal) .bf16) (shapeCast_apply _ _ _
    (ix3 r (⟨n.val / 8, by omega⟩ : Fin 4480) (⟨n.val % 8, by omega⟩ : Fin 8) : S40x4480x8.Idx) ?_)) ?_
  · refine (Shape.rowMajor_val_three _).trans (Eq.trans ?_ (Shape.rowMajor_val_two _).symm)
    show (r.val * 4480 + n.val / 8) * 8 + n.val % 8 = r.val * 35840 + n.val
    omega
  · have eA : broadcastInDim S40x4480x8 ![0, 1, 2] bcast_S40x4480x1_S40x4480x8_0_1_2 (broadcastInDim S40x4480x1 ![0, 1] bcast_S40x4480_S40x4480x1_0_1 qz)
        (ix3 r (⟨n.val / 8, by omega⟩ : Fin 4480) (⟨n.val % 8, by omega⟩ : Fin 8)) = qz (ix2 r ⟨n.val / 8, by omega⟩) :=
      (broadcastInDim_apply _ _ _ _ (ix3 r (⟨n.val / 8, by omega⟩ : Fin 4480) (0 : Fin 1)) (by intro a; fin_cases a <;> rfl)).trans
        (broadcastInDim_apply _ _ _ _ (ix2 r (⟨n.val / 8, by omega⟩ : Fin 4480)) (by intro a; fin_cases a <;> rfl))
    have eB : broadcastInDim S40x4480x8 ![0, 1, 2] bcast_S1x1x8_S40x4480x8_0_1_2 (broadcastInDim S1x1x8 ![2] bcast_S8_S1x1x8_2 shifts)
        (ix3 r (⟨n.val / 8, by omega⟩ : Fin 4480) (⟨n.val % 8, by omega⟩ : Fin 8)) = IntOp.muli 4#32 (BitVec.ofNat 32 (n.val % 8)) :=
      (broadcastInDim_apply _ _ _ _ (ix3 (0 : Fin 1) (0 : Fin 1) (⟨n.val % 8, by omega⟩ : Fin 8)) (by intro a; fin_cases a <;> rfl)).trans
        (broadcastInDim_apply _ _ _ _ (ix1 (⟨n.val % 8, by omega⟩ : Fin 8)) (by intro a; fin_cases a; rfl))
    refine Eq.trans ?_ (unpack _ (n.val % 8) (by omega))
    exact congrArg₂ (fun a b => FloatOps.sitofp (F := Ideal) .bf16 (IntOp.andi (IntOp.shrsi .host a b) 15#32)) eA eB

/-- A group index in range is gathered at as it is. -/
theorem rows_at (g : IVec S5120 32) (k : Fin 5120) (h : (g (ix1 k)).toNat < 40) :
    rows g (ix2 k (0 : Fin 1)) = BitVec.ofNat 32 ((g (ix1 k)).toNat % 40) := by
  have hi : (g (ix1 k)).toInt = ((g (ix1 k)).toNat : ℤ) := BitVec.toInt_eq_toNat_of_lt (by omega)
  have hs : (g (ix1 k)).slt 0#32 = false := by simp [BitVec.slt, hi]
  have e : rows g (ix2 k (0 : Fin 1)) = Scalar.select (IntOp.cmpi .slt (g (ix1 k)) 0#32) (IntOp.addi (g (ix1 k)) 40#32) (g (ix1 k)) :=
    broadcastInDim_apply _ _ _ _ (ix1 k) (by intro a; fin_cases a; rfl)
  rw [e, Nat.mod_eq_of_lt h, BitVec.ofNat_toNat]
  simp [Scalar.select, IntOp.cmpi, hs]

/-- A table gathered by group index, when the index is in range. -/
theorem gather_at (T : FVec Ideal S40x35840 .bf16) (g : IVec S5120 32) (k : Fin 5120) (n : Fin 35840) (h : (g (ix1 k)).toNat < 40) :
    Host.gather gather_S40x35840_S5120x1_S5120x35840_1_0_n_n_0_1_135840 T (rows g) (ix2 k n)
      = T (ix2 ⟨(g (ix1 k)).toNat % 40, Nat.mod_lt _ (by decide)⟩ n) :=
  Routing.gather_row _ rfl rfl rfl rfl rfl T (rows g) k n ⟨(g (ix1 k)).toNat % 40, Nat.mod_lt _ (by decide)⟩ (rows_at g k h) (by decide)

/-- The inputs as a matrix. -/
theorem x_at (x : FVec Ideal S64x1x5120 .bf16) (b : Fin 64) (k : Fin 5120) :
    shapeCast S64x5120 x shapeCasts_S64x1x5120_S64x5120 (ix2 b k) = x (ix3 b (0 : Fin 1) k) := by
  refine shapeCast_apply _ _ _ _ ?_
  refine (Shape.rowMajor_val_three _).trans (Eq.trans ?_ (Shape.rowMajor_val_two _).symm)
  show (b.val * 1 + 0) * 5120 + k.val = b.val * 5120 + k.val
  omega

/-- The product at an element, its operands left whole. -/
theorem dot_at (A : FVec Ideal S64x5120 .bf16) (B : FVec Ideal S5120x35840 .bf16) (b : Fin 64) (n : Fin 35840) :
    (truncf .bf16 (Host.dotGeneral dot_S64x5120_S5120x35840_S64x35840_1_0_0_1_n_n none A B : FVec Ideal S64x35840 .f32) bitsLt_bf16_f32
      : FVec Ideal S64x35840 .bf16) (ix2 b n) = ∑ k : Fin 5120, (A (ix2 b k) * B (ix2 k n) : EReal) := by
  pointwise
  rfl

/-- When every group index is a group, the reference's result is the layer's. -/
theorem composed_eq (x : FVec Ideal S64x1x5120 .bf16) (qw : IVec S640x35840 32) (sc : FVec Ideal S40x35840 .bf16) (qz : IVec S40x4480 32)
    (g : IVec S5120 32) (hg : ∀ k : Fin 5120, (g (ix1 k)).toNat < 40) (b : Fin 64) (n : Fin 35840) :
    composed x qw sc qz g (ix2 b n) = linear x qw sc qz g b n := by
  refine (dot_at _ _ b n).trans (Finset.sum_congr rfl fun k _ => ?_)
  refine congrArg₂ (fun a b : EReal => a * b) (x_at x b k) ?_
  refine congrArg₂ (fun a b : EReal => a * b) (congrArg₂ (fun a b : EReal => a - b) (codes_at qw k n) ?_) (gather_at sc g k n (hg k))
  exact (gather_at (zeros qz) g k n (hg k)).trans (zeros_at qz _ n)

end Cert.ReferenceIdeal.Hand

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_groups_in_range
public import proofs.«01_k».proof.Proof.KernelBody
public import proofs.«01_k».proof.Proof.KernelIdealBody
public import proofs.«01_k».proof.Proof.KernelIdealValue
public import proofs.«01_k».proof.Proof.ReferenceValue
public import Idealize.ShloMosaic.Lib.Bf16Pair
public import Idealize.ShloMosaic.Lib.Bf16PairInverse
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The kernel's frame: it terminates with its five arguments as launched and every counter at zero. -/
theorem frame_kernel : Cert.quiescent_Kernel := fun m ρ _ => Cert.Kernel.Hand.frame m ρ

/-- The same for the kernel read over the ideal values. -/
theorem frame_kernelIdeal : Cert.quiescent_KernelIdeal := fun m ρ _ => Cert.KernelIdeal.Hand.frame m ρ

/-- The reference's frame, read off its run. -/
theorem frame_referenceIdeal : Cert.quiescent_ReferenceIdeal := fun m ρ _ =>
  (θ_run _ _ _).mono (fun r h => ⟨fun c => (h c).2, Idealize.ShloMosaic.sem_eq_zero_of_no_sems (by decide) r.2⟩)
    (Cert.ReferenceIdeal.Value.run (F := Ideal) m ρ)

/-- The precondition says what its text says: every group index is one of the 40 groups. -/
theorem groups_lt (x : FVec Ideal Cert.Pre_groups_in_range.S64x1x5120 .bf16) (qw : IVec Cert.Pre_groups_in_range.S640x35840 32)
    (sc : FVec Ideal Cert.Pre_groups_in_range.S40x35840 .bf16) (qz : IVec Cert.Pre_groups_in_range.S40x4480 32)
    (g : IVec Cert.Pre_groups_in_range.S5120 32)
    (h : Cert.Pre_groups_in_range.fn (F := Ideal) x qw sc qz g = fun _ => 1#1) (k : Fin 5120) : (g (ValueIdx.ix1 k)).toNat < 40 := by
  have e : IntOp.andi (IntOp.cmpi .sge (g (ValueIdx.ix1 k)) 0#32) (IntOp.cmpi .slt (g (ValueIdx.ix1 k)) 40#32) = 1#1 := congrFun h (ValueIdx.ix1 k)
  generalize g (ValueIdx.ix1 k) = w at e
  have hl : ∀ a b : Bool, BitVec.ofBool a &&& BitVec.ofBool b = 1#1 → a = true ∧ b = true := by decide
  obtain ⟨h0, h1⟩ := hl _ _ e
  have h0' : (0 : ℤ) ≤ w.toInt := by simpa [BitVec.sle] using h0
  have h1' : w.toInt < 40 := by simpa [BitVec.slt] using h1
  rw [BitVec.toInt_eq_toNat_cond] at h0' h1'
  split at h1' <;> omega

/-- The value claim: over the extended reals, when every group index is a group, the kernel and the reference end with the same
    result, the plain linear layer of the arguments. -/
theorem value : Cert.algebraic_KernelIdeal_ReferenceIdeal_pre_groups_in_range := by
  intro m g m' g' hpre heq
  refine ⟨Cert.KernelIdeal.Hand.result m, Cert.KernelIdeal.Hand.run_result m g fun c => groups_lt _ _ _ _ _ (hpre c), ?_⟩
  refine (θ_run _ _ _).mono (fun r h c => ⟨?_, (h c).2⟩) (Cert.ReferenceIdeal.Value.run (F := Ideal) m' g')
  obtain ⟨e0, e1, e2, e3, e4⟩ := heq c
  refine (h c).1.trans ?_
  rw [e0, e1, e2, e3, e4]
  refine funext fun i => ?_
  obtain ⟨b, n, rfl⟩ : ∃ (b : Fin 64) (n : Fin 35840), i = ValueIdx.ix2 b n := ⟨i 0, i 1, by funext a; fin_cases a <;> rfl⟩
  exact Cert.ReferenceIdeal.Hand.composed_eq _ _ _ _ _ (groups_lt _ _ _ _ _ (hpre c)) b n

/-- The kernel's scales, kept two bfloat16 rows to a word, are read over the ideal values as the pairs of rows themselves: the scratch as a
    whole, the rows stored, the block of the scratch stored to, the block loaded, and the rows loaded. -/
theorem preserves : Cert.preserves_Kernel_KernelIdeal :=
  ⟨IdealRules.bf16_pair.bufferStatement _ _, IdealRules.bf16_pair.statement _ _, IdealRules.bf16_pair.statement _ _,
    IdealRules.bf16_pair.statement _ _, IdealRules.bf16_pair.statement _ _⟩

/-- The whole claim. -/
theorem claim : Cert.Claim := ⟨Cert.Kernel.Gen.facts, Cert.KernelIdeal.Gen.facts, Cert.ReferenceIdeal.Gen.facts, Cert.Pre_groups_in_range.Gen.facts,
  frame_kernel, frame_kernelIdeal, fun m ρ _ => Cert.KernelIdeal.Hand.frame m ρ, frame_referenceIdeal,
  fun m ρ _ => frame_referenceIdeal m ρ trivial, preserves, value⟩

end Cert.Proof

end
